-- ==== Defs.lean ====
def Pre_Kernel [hPre_bits : Cert.Pre_bits.Facts] (m : (ℓ : Loc Cert.Kernel.nD Cert.Kernel.τ Cert.Kernel.sig) → Buf (Elt Bits) ℓ) : Prop :=
  ∀ c : Dev Cert.Kernel.nD,
    (Cert.Pre_bits.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_bits : Cert.Pre_bits.Facts] (m : (ℓ : Loc Cert.KernelIdeal.nD Cert.KernelIdeal.τ Cert.KernelIdeal.sig) → Buf (Elt Ideal) ℓ) : Prop :=
  ∀ c : Dev Cert.KernelIdeal.nD,
    (Cert.Pre_bits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_bits : Cert.Pre_bits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_bits : Cert.Pre_bits.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_bits : Cert.Pre_bits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] [hPre_bits : Cert.Pre_bits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_bits : Cert.Pre_bits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_bits : Cert.Pre_bits.Facts),
    quiescent_Kernel (hKernel := hKernel) (hPre_bits := hPre_bits)
    ∧ quiescent_KernelIdeal (hKernelIdeal := hKernelIdeal) (hPre_bits := hPre_bits)
    ∧ quiescent_ReferenceIdeal (hReferenceIdeal := hReferenceIdeal) (hPre_bits := hPre_bits)
    ∧ preserves_Kernel_KernelIdeal
    ∧ algebraic_KernelIdeal_ReferenceIdeal (hKernelIdeal := hKernelIdeal) (hReferenceIdeal := hReferenceIdeal) (hPre_bits := hPre_bits)
-- ==== Pre_bits.lean ====
abbrev S4096x200x128 : Shape := ⟨3, ![4096, 200, 128]⟩
abbrev S_ : Shape := ⟨0, ![]⟩
abbrev S4096x1x200 : Shape := ⟨3, ![4096, 1, 200]⟩

class Facts : Prop where
  bcast_S_S4096x1x200 : S_.BroadcastsInDim S4096x1x200 (![] : Fin 0 → Fin S4096x1x200.rank)
  reducesTo_S4096x1x200_S_d0_1_2 : S4096x1x200.ReducesTo [0, 1, 2] S_
  h_S_ : 0 < S_.numel

variable [Facts]

def fn {F : FTy → Type} [FloatOps F] (main_arg0 : FVec F S4096x200x128 .f32) (main_arg1 : IVec S_ 32) (main_arg2 : IVec S4096x1x200 32) : IVec S_ 1 :=
  let main_c : IVec S_ 32 := constantI S_ 32 0#32
  let main_v0 : IVec S4096x1x200 32 := broadcastInDim S4096x1x200 ![] bcast_S_S4096x1x200 main_c
  let main_v1 : IVec S4096x1x200 1 := cmpi .sge main_arg2 main_v0
  let main_c_0 : IVec S_ 32 := constantI S_ 32 1#32
  let main_v2 : IVec S4096x1x200 32 := broadcastInDim S4096x1x200 ![] bcast_S_S4096x1x200 main_c_0
  let main_v3 : IVec S4096x1x200 1 := cmpi .sle main_arg2 main_v2
  let main_v4 : IVec S4096x1x200 1 := andi main_v1 main_v3
  let main_c_1 : IVec S_ 1 := constantI S_ 1 1#1
  let main_v5 : IVec S_ 1 := (fun x v => Host.reduce IntOp.andi x v reducesTo_S4096x1x200_S_d0_1_2 h_S_) main_v4 main_c_1
  main_v5
-- ==== Kernel.lean ====
abbrev S4096x200x128 : Shape := ⟨3, ![4096, 200, 128]⟩
abbrev S_ : Shape := ⟨0, ![]⟩
abbrev S4096x1x200 : Shape := ⟨3, ![4096, 1, 200]⟩
abbrev S1x200x4096 : Shape := ⟨3, ![1, 200, 4096]⟩
abbrev S819200x128 : Shape := ⟨2, ![819200, 128]⟩
abbrev S4096x128 : Shape := ⟨2, ![4096, 128]⟩
abbrev S96x128 : Shape := ⟨2, ![96, 128]⟩
abbrev S104x128 : Shape := ⟨2, ![104, 128]⟩
abbrev S64 : Shape := ⟨1, ![64]⟩
abbrev S64x128 : Shape := ⟨2, ![64, 128]⟩
abbrev S1x96x128 : Shape := ⟨3, ![1, 96, 128]⟩
abbrev S1x104x128 : Shape := ⟨3, ![1, 104, 128]⟩
abbrev S16 : Shape := ⟨1, ![16]⟩
abbrev S1x16 : Shape := ⟨2, ![1, 16]⟩
abbrev S4096x1x128 : Shape := ⟨3, ![4096, 1, 128]⟩

abbrev nBuf : Table → Nat
  | .hbm => 7
  | .local .scVector .vmem => 6
  | _ => 0

abbrev bufTy : (tb : Table) → Fin (nBuf tb) → BufTy
  | .hbm, ⟨0, _⟩ => ⟨S4096x200x128, .f32⟩
  | .hbm, ⟨1, _⟩ => ⟨S_, .i32⟩
  | .hbm, ⟨2, _⟩ => ⟨S4096x1x200, .i32⟩
  | .hbm, ⟨3, _⟩ => ⟨S1x200x4096, .i32⟩
  | .hbm, ⟨4, _⟩ => ⟨S819200x128, .f32⟩
  | .hbm, ⟨5, _⟩ => ⟨S4096x128, .f32⟩
  | .hbm, ⟨6, _⟩ => ⟨S4096x1x128, .f32⟩
  | .local .scVector .vmem, ⟨0, _⟩ => ⟨S96x128, .i32⟩
  | .local .scVector .vmem, ⟨1, _⟩ => ⟨S104x128, .i32⟩
  | .local .scVector .vmem, ⟨2, _⟩ => ⟨S64, .i32⟩
  | .local .scVector .vmem, ⟨3, _⟩ => ⟨S64, .i32⟩
  | .local .scVector .vmem, ⟨4, _⟩ => ⟨S64x128, .f32⟩
  | .local .scVector .vmem, ⟨5, _⟩ => ⟨S64x128, .f32⟩
  | _, _ => ⟨S4096x200x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v1_scv : Ref sig .scVector := ⟨.hbm, 4, rfl⟩
abbrev main_v0_scv : Ref sig .scVector := ⟨.hbm, 3, rfl⟩
abbrev main_v2_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let c0_i32 : BitVec 32 := 0#32
  let c0_i32_0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![0, 0, v2.toNat]
def k0_off2 (i : grid0.Coords) : Fin 3 → Nat :=
  let c0_i32_2 : BitVec 32 := 0#32
  let c96_i32 : BitVec 32 := 96#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![0, 96, v2.toNat]
@[reducible] def k0_t1_loop : Scf.Loop 32 :=
  let c0_i32_8 : BitVec 32 := 0#32
  let c96_i32_9 : BitVec 32 := 96#32
  let v17 : BitVec 32 := Scalar.addi c0_i32_8 c96_i32_9
  let c1_i32 : BitVec 32 := 1#32
  ⟨c0_i32_8, v17, c1_i32⟩
def k0_off3 (k0_t1 : Fin k0_t1_loop.trips) : Fin 2 → Nat :=
  let c0_i32_8 : BitVec 32 := 0#32
  let c1_i32 : BitVec 32 := 1#32
  let arg15 : BitVec 32 := Scf.iv c0_i32_8 c1_i32 k0_t1
  let v158 : Index := Scalar.indexCast arg15
  let c0_70 : Index := 0#32
  ![v158.toNat, 0]
def k0_off4 (k0_t1 : Fin k0_t1_loop.trips) : Fin 2 → Nat :=
  let c0_i32_8 : BitVec 32 := 0#32
  let c1_i32 : BitVec 32 := 1#32
  let arg15 : BitVec 32 := Scf.iv c0_i32_8 c1_i32 k0_t1
  let v162 : Index := Scalar.indexCast arg15
  let c16_71 : Index := 16#32
  ![v162.toNat, 16]
def k0_off5 (k0_t1 : Fin k0_t1_loop.trips) : Fin 2 → Nat :=
  let c0_i32_8 : BitVec 32 := 0#32
  let c1_i32 : BitVec 32 := 1#32
  let arg15 : BitVec 32 := Scf.iv c0_i32_8 c1_i32 k0_t1
  let v166 : Index := Scalar.indexCast arg15
  let c32_72 : Index := 32#32
  ![v166.toNat, 32]
def k0_off6 (k0_t1 : Fin k0_t1_loop.trips) : Fin 2 → Nat :=
  let c0_i32_8 : BitVec 32 := 0#32
  let c1_i32 : BitVec 32 := 1#32
  let arg15 : BitVec 32 := Scf.iv c0_i32_8 c1_i32 k0_t1
  let v170 : Index := Scalar.indexCast arg15
  let c48_73 : Index := 48#32
  ![v170.toNat, 48]
def k0_off7 (k0_t1 : Fin k0_t1_loop.trips) : Fin 2 → Nat :=
  let c0_i32_8 : BitVec 32 := 0#32
  let c1_i32 : BitVec 32 := 1#32
  let arg15 : BitVec 32 := Scf.iv c0_i32_8 c1_i32 k0_t1
  let v174 : Index := Scalar.indexCast arg15
  let c64 : Index := 64#32
  ![v174.toNat, 64]
def k0_off8 (k0_t1 : Fin k0_t1_loop.trips) : Fin 2 → Nat :=
  let c0_i32_8 : BitVec 32 := 0#32
  let c1_i32 : BitVec 32 := 1#32
  let arg15 : BitVec 32 := Scf.iv c0_i32_8 c1_i32 k0_t1
  let v178 : Index := Scalar.indexCast arg15
  let c80 : Index := 80#32
  ![v178.toNat, 80]
def k0_off9 (k0_t1 : Fin k0_t1_loop.trips) : Fin 2 → Nat :=
  let c0_i32_8 : BitVec 32 := 0#32
  let c1_i32 : BitVec 32 := 1#32
  let arg15 : BitVec 32 := Scf.iv c0_i32_8 c1_i32 k0_t1
  let v182 : Index := Scalar.indexCast arg15
  let c96 : Index := 96#32
  ![v182.toNat, 96]
def k0_off10 (k0_t1 : Fin k0_t1_loop.trips) : Fin 2 → Nat :=
  let c0_i32_8 : BitVec 32 := 0#32
  let c1_i32 : BitVec 32 := 1#32
  let arg15 : BitVec 32 := Scf.iv c0_i32_8 c1_i32 k0_t1
  let v186 : Index := Scalar.indexCast arg15
  let c112 : Index := 112#32
  ![v186.toNat, 112]
@[reducible] def k0_t2_loop : Scf.Loop 32 :=
  let c0_i32_14 : BitVec 32 := 0#32
  let c104_i32 : BitVec 32 := 104#32
  let v23 : BitVec 32 := Scalar.addi c0_i32_14 c104_i32
  let c1_i32_15 : BitVec 32 := 1#32
  ⟨c0_i32_14, v23, c1_i32_15⟩
def k0_off11 (k0_t2 : Fin k0_t2_loop.trips) : Fin 2 → Nat :=
  let c0_i32_14 : BitVec 32 := 0#32
  let c1_i32_15 : BitVec 32 := 1#32
  let arg15 : BitVec 32 := Scf.iv c0_i32_14 c1_i32_15 k0_t2
  let v158 : Index := Scalar.indexCast arg15
  let c0_70 : Index := 0#32
  ![v158.toNat, 0]
def k0_off12 (k0_t2 : Fin k0_t2_loop.trips) : Fin 2 → Nat :=
  let c0_i32_14 : BitVec 32 := 0#32
  let c1_i32_15 : BitVec 32 := 1#32
  let arg15 : BitVec 32 := Scf.iv c0_i32_14 c1_i32_15 k0_t2
  let v162 : Index := Scalar.indexCast arg15
  let c16_71 : Index := 16#32
  ![v162.toNat, 16]
def k0_off13 (k0_t2 : Fin k0_t2_loop.trips) : Fin 2 → Nat :=
  let c0_i32_14 : BitVec 32 := 0#32
  let c1_i32_15 : BitVec 32 := 1#32
  let arg15 : BitVec 32 := Scf.iv c0_i32_14 c1_i32_15 k0_t2
  let v166 : Index := Scalar.indexCast arg15
  let c32_72 : Index := 32#32
  ![v166.toNat, 32]
def k0_off14 (k0_t2 : Fin k0_t2_loop.trips) : Fin 2 → Nat :=
  let c0_i32_14 : BitVec 32 := 0#32
  let c1_i32_15 : BitVec 32 := 1#32
  let arg15 : BitVec 32 := Scf.iv c0_i32_14 c1_i32_15 k0_t2
  let v170 : Index := Scalar.indexCast arg15
  let c48_73 : Index := 48#32
  ![v170.toNat, 48]
def k0_off15 (k0_t2 : Fin k0_t2_loop.trips) : Fin 2 → Nat :=
  let c0_i32_14 : BitVec 32 := 0#32
  let c1_i32_15 : BitVec 32 := 1#32
  let arg15 : BitVec 32 := Scf.iv c0_i32_14 c1_i32_15 k0_t2
  let v174 : Index := Scalar.indexCast arg15
  let c64 : Index := 64#32
  ![v174.toNat, 64]
def k0_off16 (k0_t2 : Fin k0_t2_loop.trips) : Fin 2 → Nat :=
  let c0_i32_14 : BitVec 32 := 0#32
  let c1_i32_15 : BitVec 32 := 1#32
  let arg15 : BitVec 32 := Scf.iv c0_i32_14 c1_i32_15 k0_t2
  let v178 : Index := Scalar.indexCast arg15
  let c80 : Index := 80#32
  ![v178.toNat, 80]
def k0_off17 (k0_t2 : Fin k0_t2_loop.trips) : Fin 2 → Nat :=
  let c0_i32_14 : BitVec 32 := 0#32
  let c1_i32_15 : BitVec 32 := 1#32
  let arg15 : BitVec 32 := Scf.iv c0_i32_14 c1_i32_15 k0_t2
  let v182 : Index := Scalar.indexCast arg15
  let c96 : Index := 96#32
  ![v182.toNat, 96]
def k0_off18 (k0_t2 : Fin k0_t2_loop.trips) : Fin 2 → Nat :=
  let c0_i32_14 : BitVec 32 := 0#32
  let c1_i32_15 : BitVec 32 := 1#32
  let arg15 : BitVec 32 := Scf.iv c0_i32_14 c1_i32_15 k0_t2
  let v186 : Index := Scalar.indexCast arg15
  let c112 : Index := 112#32
  ![v186.toNat, 112]
def k0_off19 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_57 : BitVec 32 := 0#32
  ![v2.toNat, 0]
def k0_off20 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_63 : BitVec 32 := 64#32
  let v151 : BitVec 32 := Scalar.addi v2 c64_i32_63
  let c0_i32_64 : BitVec 32 := 0#32
  ![v151.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x200x128 : Shape := ⟨3, ![4096, 200, 128]⟩
abbrev S_ : Shape := ⟨0, ![]⟩
abbrev S4096x1x200 : Shape := ⟨3, ![4096, 1, 200]⟩
abbrev S4096x200 : Shape := ⟨2, ![4096, 200]⟩
abbrev S4096 : Shape := ⟨1, ![4096]⟩
abbrev S4096x1x1 : Shape := ⟨3, ![4096, 1, 1]⟩
abbrev S4096x1x128 : Shape := ⟨3, ![4096, 1, 128]⟩
abbrev S4096x1x128x1 : Shape := ⟨4, ![4096, 1, 128, 1]⟩
abbrev S1 : Shape := ⟨1, ![1]⟩
abbrev S1x1x1x1 : Shape := ⟨4, ![1, 1, 1, 1]⟩

abbrev nBuf : Space → Nat
  | .hbm => 33
  | .vmem => 0
  | .smem => 0
  | _ => 0

abbrev bufTy : (tb : Table) → Fin (tcTables nBuf tb) → BufTy
  | .hbm, ⟨0, _⟩ => ⟨S4096x200x128, .f32⟩
  | .hbm, ⟨1, _⟩ => ⟨S_, .i32⟩
  | .hbm, ⟨2, _⟩ => ⟨S4096x1x200, .i32⟩
  | .hbm, ⟨3, _⟩ => ⟨S4096x200, .i32⟩
  | .hbm, ⟨4, _⟩ => ⟨S_, .i32⟩
  | .hbm, ⟨5, _⟩ => ⟨S4096, .i32⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096x1x1, .i32⟩
  | .hbm, ⟨10, _⟩ => ⟨S4096x1x128, .i32⟩
  | .hbm, ⟨11, _⟩ => ⟨S_, .i32⟩
  | .hbm, ⟨12, _⟩ => ⟨S4096x1x128, .i32⟩
  | .hbm, ⟨13, _⟩ => ⟨S4096x1x128, .i1⟩
  | .hbm, ⟨14, _⟩ => ⟨S_, .i32⟩
  | .hbm, ⟨15, _⟩ => ⟨S4096x1x128, .i32⟩
  | .hbm, ⟨16, _⟩ => ⟨S4096x1x128, .i32⟩
  | .hbm, ⟨17, _⟩ => ⟨S4096x1x128, .i32⟩
  | .hbm, ⟨18, _⟩ => ⟨S4096x1x128x1, .i32⟩
  | .hbm, ⟨19, _⟩ => ⟨S1, .i32⟩
  | .hbm, ⟨20, _⟩ => ⟨S_, .i32⟩
  | .hbm, ⟨21, _⟩ => ⟨S4096x1x128x1, .i32⟩
  | .hbm, ⟨22, _⟩ => ⟨S4096x1x128x1, .i1⟩
  | .hbm, ⟨23, _⟩ => ⟨S1x1x1x1, .i32⟩
  | .hbm, ⟨24, _⟩ => ⟨S4096x1x128x1, .i32⟩
  | .hbm, ⟨25, _⟩ => ⟨S4096x1x128x1, .i1⟩
  | .hbm, ⟨26, _⟩ => ⟨S4096x1x128x1, .i1⟩
  | .hbm, ⟨27, _⟩ => ⟨S_, .i1⟩
  | .hbm, ⟨28, _⟩ => ⟨S4096x1x128, .i1⟩
  | .hbm, ⟨29, _⟩ => ⟨S4096x1x128, .f32⟩
  | .hbm, ⟨30, _⟩ => ⟨S_, .f32⟩
  | .hbm, ⟨31, _⟩ => ⟨S4096x1x128, .f32⟩
  | .hbm, ⟨32, _⟩ => ⟨S4096x1x128, .f32⟩
  | _, _ => ⟨S4096x200x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_cst : Ref sig .tc := ⟨.hbm, 30, rfl⟩
abbrev main_call0_v14 : Ref sig .tc := ⟨.hbm, 31, rfl⟩
abbrev main_v6 : Ref sig .tc := ⟨.hbm, 32, rfl⟩

abbrev nD : Nat := 1
abbrev τ : Topo := Topo.v7x

variable {F : FTy → Type} [FloatOps F]
-- ==== Proof.Values.lean ====
/-
  What the kernel computes, as plain functions: the sum of a row's mask, the row of the flattened table that the sum
  names, and the result that holds those rows.
-/
module

public import proofs.«01_k».proof.KernelIdeal
public import Idealize.ShloMosaic.Lib.ValueIdxCore

@[expose] public section

noncomputable section

namespace Cert.Proof.Values

open Cert.KernelIdeal
open Idealize.ShloMosaic Idealize.ShloMosaic.ValueIdx

/-! ## The sum of a row's mask -/

/-- The transposed mask's contents. -/
abbrev Mask : Type := S1x200x4096.Idx → BitVec 32

/-- The transposed mask's word of row `r` at time `t`, zero outside the array. -/
def wordAt (M : Mask) (r t : ℕ) : BitVec 32 :=
  if h : t < 200 ∧ r < 4096 then M (ix3 (n0 := 1) 0 ⟨t, h.1⟩ ⟨r, h.2⟩) else 0#32

/-- The sum of row `r`'s mask over the first `n` times, as the kernel adds it up. -/
def partSum (M : Mask) (r : ℕ) : ℕ → BitVec 32
  | 0 => 0#32
  | n + 1 => partSum M r n + wordAt M r n

/-- Every word of the mask is zero or one. -/
def IsBits (M : Mask) : Prop := ∀ j, M j = 0#32 ∨ M j = 1#32

/-- A word of such a mask is at most one. -/
theorem wordAt_le {M : Mask} (hM : IsBits M) (r t : ℕ) : (wordAt M r t).toNat ≤ 1 := by
  unfold wordAt
  split
  · rcases hM _ with h | h <;> rw [h] <;> decide
  · decide

/-- The sum of `n` such words is at most `n`. -/
theorem partSum_le {M : Mask} (hM : IsBits M) (r : ℕ) : ∀ n, n ≤ 200 → (partSum M r n).toNat ≤ n
  | 0, _ => by simp [partSum]
  | n + 1, h => by
    have h1 := partSum_le hM r n (by omega)
    have h2 := wordAt_le hM r n
    rw [partSum, BitVec.toNat_add]
    omega

/-! ## The row of the table -/

/-- The time the sum names: one below it, and the last one when it is zero. -/
def lastTime (s : BitVec 32) : BitVec 32 := if s = 0#32 then 199#32 else s - 1#32

/-- The time named is below 200. -/
theorem lastTime_lt {s : BitVec 32} (h : s.toNat ≤ 200) : (lastTime s).toNat < 200 := by
  unfold lastTime
  split
  · decide
  · rename_i hs
    have : s.toNat ≠ 0 := fun e => hs (BitVec.eq_of_toNat_eq e)
    rw [BitVec.toNat_sub]
    simp only [BitVec.toNat_ofNat]
    omega

/-- The row of the flattened table for row `r` of the result. -/
def tableRow (M : Mask) (r : ℕ) : BitVec 32 := BitVec.ofNat 32 r * 200#32 + lastTime (partSum M r 200)

/-- As a number it is the block of row `r` and the time within it. -/
theorem tableRow_toNat {M : Mask} (hM : IsBits M) {r : ℕ} (hr : r < 4096) :
    (tableRow M r).toNat = r * 200 + (lastTime (partSum M r 200)).toNat := by
  have h := lastTime_lt (partSum_le hM r 200 le_rfl)
  rw [tableRow, BitVec.toNat_add, BitVec.toNat_mul, BitVec.toNat_ofNat, BitVec.toNat_ofNat]
  omega

/-- It is a row of the table. -/
theorem tableRow_lt {M : Mask} (hM : IsBits M) {r : ℕ} (hr : r < 4096) : (tableRow M r).toNat < 819200 := by
  have h := lastTime_lt (partSum_le hM r 200 le_rfl)
  rw [tableRow_toNat hM hr]
  omega

/-! ## The result -/

variable {F : FTy → Type}

/-- The result: row `r` is the table's row that the sum of row `r`'s mask names. -/
def picked (X : S819200x128.Idx → Elt F .f32) (M : Mask) : S4096x128.Idx → Elt F .f32 :=
  fun j => X (ix2 ⟨(tableRow M (j 0).val).toNat % 819200, Nat.mod_lt _ (by decide)⟩ (j 1))

/-! ## One step of the index arithmetic -/

/-- The word the kernel stores for lane `x` of group `off`, of the tile whose rows start at `b`. -/
theorem stored_word (M : Mask) (b off x : ℕ) :
    (BitVec.ofNat 32 b + BitVec.ofNat 32 off + BitVec.ofNat 32 x) * 200#32 + lastTime (partSum M (b + off + x) 200)
      = tableRow M (b + off + x) := by
  rw [tableRow, ← BitVec.ofNat_add, ← BitVec.ofNat_add]

end Cert.Proof.Values

end
-- ==== Proof.Launch.lean ====
/-
  The launch of the kernel on the thirty-two vector subcores: what the one call hands each of them and what each hands
  back. The table and the transposed mask are read by every subcore at once, so each gets one of thirty-two shares of
  them; the result is cut into sixty-four blocks of sixty-four rows, and each subcore gets two of these outright.
-/
module

public import proofs.«01_k».proof.Defs
public import proofs.«01_k».proof.Proof.Values
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.Tactic
public import proofs.«01_k».proof.Proof.Gen.KernelIdeal
public import proofs.«01_k».proof.Proof.Gen.KernelIdeal.Skeleton

@[expose] public section

noncomputable section

namespace Cert.Proof.Launch

open Cert.KernelIdeal Cert.KernelIdeal.Gen Cert.Proof.Values

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resources -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The flattened table, the transposed mask and the result, of device `d`. -/
abbrev tabLoc (d : Dev nD) : Loc nD τ sig := (SparseCore.T d).loc main_v1
abbrev maskLoc (d : Dev nD) : Loc nD τ sig := (SparseCore.T d).loc main_v0
abbrev outLoc (d : Dev nD) : Loc nD τ sig := (SparseCore.T d).loc main_v2

/-- The same three as a vector subcore addresses them. -/
abbrev tabV : Memref sig .scVector .hbm S819200x128 .f32 := Memref.whole main_v1_scv
abbrev maskV : Memref sig .scVector .hbm S1x200x4096 .i32 := Memref.whole main_v0_scv
abbrev outV : Memref sig .scVector .hbm S4096x128 .f32 := Memref.whole main_v2_scv
/-- A vector subcore's scratch buffers: the two parts of its mask, the two lists of rows, the two blocks of rows. -/
abbrev lowV : Memref sig .scVector .vmem S96x128 .i32 := Memref.whole cc0_scratch0
abbrev highV : Memref sig .scVector .vmem S104x128 .i32 := Memref.whole cc0_scratch1
abbrev listAV : Memref sig .scVector .vmem S64 .i32 := Memref.whole cc0_scratch2
abbrev listBV : Memref sig .scVector .vmem S64 .i32 := Memref.whole cc0_scratch3
abbrev rowsAV : Memref sig .scVector .vmem S64x128 .f32 := Memref.whole cc0_scratch4
abbrev rowsBV : Memref sig .scVector .vmem S64x128 .f32 := Memref.whole cc0_scratch5

/-! ## Who gets what -/

/-- The number of the subcore `i` of SparseCore `c`. -/
def tileNo (c : Fin 2) (i : Fin 16) : Fin 32 := ⟨2 * i.val + c.val, by omega⟩
/-- The two blocks of the result that subcore number `w` fills. -/
def blockA (w : Fin 32) : Fin 64 := ⟨2 * w.val, by omega⟩
def blockB (w : Fin 32) : Fin 64 := ⟨2 * w.val + 1, by omega⟩

theorem blocks_div : 64 ∣ S4096x128.size 0 := ⟨64, rfl⟩
/-- The elements of block `b` of the result. -/
abbrev blockSet (b : Fin 64) : Finset S4096x128.Idx := (Rect.part (s := S4096x128) (a₀ := 0) blocks_div b).set

/-- The share of the table and of the mask that subcore number `w` reads through. -/
abbrev shareOf (w : Fin 32) : PosShare TreeShare := ShareLeaves.leaf 5 fullShare w

variable (X : (d : Dev nD) → Buf (Elt F) (tabLoc d)) (M : (d : Dev nD) → Buf (Elt F) (maskLoc d))
  (R : (d : Dev nD) → Buf (Elt F) (outLoc d))

/-- The result of device `d`: the table's rows that the mask names. -/
abbrev resOf (d : Dev nD) : Buf (Elt F) (outLoc d) := picked (F := F) (X d) (M d)

abbrev tabPts (d : Dev nD) (w : Fin 32) : sProp 𝕄 := tabLoc d ↦{shareOf w} X d
abbrev maskPts (d : Dev nD) (w : Fin 32) : sProp 𝕄 := maskLoc d ↦{shareOf w} M d
abbrev blockPts (d : Dev nD) (b : Fin 64) (f : Buf (Elt F) (outLoc d)) : sProp 𝕄 := outLoc d ↦[blockSet b]{fullShare} f

/-- What subcore number `w` holds while its task runs, the result's contents being `f`. -/
abbrev tilePts (d : Dev nD) (w : Fin 32) (f : Buf (Elt F) (outLoc d)) : sProp 𝕄 :=
  iprop(tabPts X d w ∗ maskPts M d w ∗ blockPts d (blockA w) f ∗ blockPts d (blockB w) f)

/-- The subcore's number, from the launch's own names of it. -/
abbrev noOf (c : Fin ((K (F := F)).nCore 0)) (i : Fin ((K (F := F)).nSub 0)) : Fin 32 :=
  tileNo (Fin.cast nCore_zero c) (Fin.cast nSub_zero i)

/-- The call's payloads: a SparseCore takes what its sixteen subcores take, and hands back what they hand back. -/
def P : (K (F := F)).Pay (nD := nD) (Val := Elt F) (Name := ℕ) (U := UU) where
  st := fun q d c => match q with
    | 0 => bigSep Finset.univ fun i : Fin ((K (F := F)).nSub 0) => tilePts X M d (noOf c i) (R d)
  dn := fun q d c => match q with
    | 0 => bigSep Finset.univ fun i : Fin ((K (F := F)).nSub 0) => tilePts X M d (noOf c i) (resOf X M d)
  go := fun q d c i => match q with | 0 => tilePts X M d (noOf c i) (R d)
  td := fun q d c i => match q with | 0 => tilePts X M d (noOf c i) (resOf X M d)
  x := fun _ _ => iprop(emp)

instance P_storable : (P (F := F) X M R).IsStorable where
  st q d c := match q with
    | 0 => (inferInstance : BI.Storable (upEmb : UEmb _ 𝕄)
      (bigSep Finset.univ fun i : Fin ((K (F := F)).nSub 0) => tilePts X M d (noOf c i) (R d)))
  dn q d c := match q with
    | 0 => (inferInstance : BI.Storable (upEmb : UEmb _ 𝕄)
      (bigSep Finset.univ fun i : Fin ((K (F := F)).nSub 0) => tilePts X M d (noOf c i) (resOf X M d)))
  go q d c i := match q with
    | 0 => (inferInstance : BI.Storable (upEmb : UEmb _ 𝕄) (tilePts X M d (noOf c i) (R d)))
  td q d c i := match q with
    | 0 => (inferInstance : BI.Storable (upEmb : UEmb _ 𝕄) (tilePts X M d (noOf c i) (resOf X M d)))

/-- A SparseCore's payload is its subcores' already. -/
theorem vecSplit : (K (F := F)).VecSplit' (P X M R) 0 := by
  intro d c
  show (bigSep Finset.univ fun i : Fin ((K (F := F)).nSub 0) => tilePts X M d (noOf c i) (R d) : sProp 𝕄)
    ⊢ |={Set.univ}=> iprop((bigSep Finset.univ fun i : Fin ((K (F := F)).nSub 0) => tilePts X M d (noOf c i) (R d))
      ∗ ((bigSep Finset.univ fun i : Fin ((K (F := F)).nSub 0) => tilePts X M d (noOf c i) (resOf X M d))
        -∗ (bigSep Finset.univ fun i : Fin ((K (F := F)).nSub 0) => tilePts X M d (noOf c i) (resOf X M d))))
  iintro H; imodintro
  isplitl [H]; · iexact H
  iintro H; iexact H

end Cert.Proof.Launch

end
-- ==== Proof.Subcore.lean ====
/-
  A vector subcore: its number, the windows of the arrays it addresses, its own semaphores and buffers.
-/
module

public import proofs.«01_k».proof.Proof.Launch

@[expose] public section

set_option maxRecDepth 16384

noncomputable section

namespace Cert.Proof.Launch

open Cert.KernelIdeal Cert.KernelIdeal.Gen Cert.Proof.Values

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable (X : (d : Dev nD) → Buf (Elt F) (tabLoc d)) (M : (d : Dev nD) → Buf (Elt F) (maskLoc d))
  (R : (d : Dev nD) → Buf (Elt F) (outLoc d))

/-! ## The subcore and what it addresses -/

variable (d : Dev nD) (L : grid0.Coords)

abbrev cV (L : grid0.Coords) : Fin τ.nSC := (L 0).castLE hcore0
abbrev jV (L : grid0.Coords) : Fin τ.nSub := (L 1).castLE hsub0
/-- The subcore's thread. -/
abbrev thrOf (d : Dev nD) (L : grid0.Coords) : Thread nD τ := V d (cV L) (jV L)

omit [FloatOps F] in
theorem bound_zero : grid0.bound 0 = 2 := rfl
omit [FloatOps F] in
theorem bound_one : grid0.bound 1 = 16 := rfl
/-- The subcore's number. -/
abbrev wOf (L : grid0.Coords) : Fin 32 := tileNo (Fin.cast bound_zero (L 0)) (Fin.cast bound_one (L 1))
omit [FloatOps F] in
theorem wOf_val : (wOf L).val = 2 * (L 1).val + (L 0).val := rfl
/-- The first of the subcore's rows. -/
abbrev base (L : grid0.Coords) : ℕ := 256 * (L 1).val + 128 * (L 0).val

/-- The two windows of the mask it fetches. -/
abbrev lowSrc (L : grid0.Coords) : Memref sig .scVector .hbm S96x128 .i32 :=
  (maskV.slice (Rect.unit (s := S1x200x4096) (k0_off1 L) S1x96x128.size (k0_off1_inb L)) (fun _ => rfl)).squeeze S96x128 squeezes_S1x96x128_S96x128
abbrev highSrc (L : grid0.Coords) : Memref sig .scVector .hbm S104x128 .i32 :=
  (maskV.slice (Rect.unit (s := S1x200x4096) (k0_off2 L) S1x104x128.size (k0_off2_inb L)) (fun _ => rfl)).squeeze S104x128 squeezes_S1x104x128_S104x128
/-- The two windows of the result it fills. -/
def outA (L : grid0.Coords) : Memref sig .scVector .hbm S64x128 .f32 :=
  outV.slice (Rect.unit (s := S4096x128) (k0_off19 L) S64x128.size (k0_off19_inb L)) (fun _ => rfl)
def outB (L : grid0.Coords) : Memref sig .scVector .hbm S64x128 .f32 :=
  outV.slice (Rect.unit (s := S4096x128) (k0_off20 L) S64x128.size (k0_off20_inb L)) (fun _ => rfl)
/-- The table as the gathers address it. -/
abbrev tabAll : Memref sig .scVector .hbm S819200x128 .f32 :=
  tabV.slice (Rect.unit (s := S819200x128) ![0, 0] S819200x128.size inb_S819200x128_S819200x128_0_0) (fun _ => rfl)

omit [FloatOps F] in
theorem rectA_eq : Rect.unit (s := S4096x128) (k0_off19 L) S64x128.size (k0_off19_inb L)
    = Rect.part (s := S4096x128) (a₀ := 0) blocks_div (blockA (wOf L)) := by
  unfold Rect.part Rect.block
  congr 1 <;> funext a
  · rw [k0_off19_eq]
    match a with
    | 0 => simp only [Shape.partIx, Shape.partSize, blockA, wOf_val]; simp; omega
    | 1 => simp [Shape.partIx, Shape.partSize]
  · match a with
    | 0 => simp [Shape.partSize]
    | 1 => simp [Shape.partSize]
omit [FloatOps F] in
theorem rectB_eq : Rect.unit (s := S4096x128) (k0_off20 L) S64x128.size (k0_off20_inb L)
    = Rect.part (s := S4096x128) (a₀ := 0) blocks_div (blockB (wOf L)) := by
  unfold Rect.part Rect.block
  congr 1 <;> funext a
  · rw [k0_off20_eq]
    match a with
    | 0 => simp only [Shape.partIx, Shape.partSize, blockB, wOf_val]; simp; omega
    | 1 => simp [Shape.partIx, Shape.partSize]
  · match a with
    | 0 => simp [Shape.partSize]
    | 1 => simp [Shape.partSize]

omit [FloatOps F] in
theorem set_outA : (outA L).view.set = blockSet (blockA (wOf L)) := by
  show ((outV).view.slice (Rect.unit (s := S4096x128) (k0_off19 L) S64x128.size (k0_off19_inb L))).set = _
  rw [show (outV.view.slice (Rect.unit (s := S4096x128) (k0_off19 L) S64x128.size (k0_off19_inb L))).set
    = (Rect.unit (s := S4096x128) (k0_off19 L) S64x128.size (k0_off19_inb L)).set from View.set_slice_whole _ _, rectA_eq]
omit [FloatOps F] in
theorem set_outB : (outB L).view.set = blockSet (blockB (wOf L)) := by
  show ((outV).view.slice (Rect.unit (s := S4096x128) (k0_off20 L) S64x128.size (k0_off20_inb L))).set = _
  rw [show (outV.view.slice (Rect.unit (s := S4096x128) (k0_off20 L) S64x128.size (k0_off20_inb L))).set
    = (Rect.unit (s := S4096x128) (k0_off20 L) S64x128.size (k0_off20_inb L)).set from View.set_slice_whole _ _, rectB_eq]

omit [FloatOps F] in
theorem pts_outA (f : Buf (Elt F) (outLoc d)) :
    ((outA L).view.loc (thrOf d L) ↦[(outA L).view.set]{fullShare} f : sProp 𝕄) = blockPts d (blockA (wOf L)) f := by
  rw [set_outA]; rfl
omit [FloatOps F] in
theorem pts_outB (f : Buf (Elt F) (outLoc d)) :
    ((outB L).view.loc (thrOf d L) ↦[(outB L).view.set]{fullShare} f : sProp 𝕄) = blockPts d (blockB (wOf L)) f := by
  rw [set_outB]; rfl

/-! ## The subcore's own cells and buffers -/

abbrev cellOf (d : Dev nD) (L : grid0.Coords) (s : DmaSem sig) : GSem nD τ sig := (thrOf d L, .dma s)

omit [FloatOps F] in
theorem ownSems0_V :
    (ownSems0 (thrOf d L) : sProp 𝕄)
      = iprop(semVal (cellOf d L cc0_scratch6.sem) 0 ∗ semVal (cellOf d L cc0_scratch7.sem) 0 ∗ semVal (cellOf d L cc0_scratch8.sem) 0
          ∗ semVal (cellOf d L cc0_scratch9.sem) 0
          ∗ bigSep (((((ownCells (thrOf d L)).erase (cellOf d L cc0_scratch6.sem)).erase (cellOf d L cc0_scratch7.sem)).erase
              (cellOf d L cc0_scratch8.sem)).erase (cellOf d L cc0_scratch9.sem)) fun g => semVal g 0) := by
  have hm : ∀ s : DmaSem sig, (SemLoc.dma s : SemLoc sig).isScoped .scVector = true → cellOf d L s ∈ ownCells (thrOf d L) :=
    fun s hs => mem_ownCells.mpr ⟨rfl, hs⟩
  have hne : ∀ s s' : DmaSem sig, s ≠ s' → cellOf d L s ≠ cellOf d L s' := fun s s' h e => h (by
    have := congrArg Prod.snd e; simpa using this)
  unfold SparseCore.Cfg.ownSems0
  rw [SparseCore.bigSep_erase' (hm cc0_scratch6.sem (by decide)),
    SparseCore.bigSep_erase' (Finset.mem_erase.mpr ⟨hne _ _ (by decide), hm cc0_scratch7.sem (by decide)⟩),
    SparseCore.bigSep_erase' (Finset.mem_erase.mpr ⟨hne _ _ (by decide), Finset.mem_erase.mpr ⟨hne _ _ (by decide), hm cc0_scratch8.sem (by decide)⟩⟩),
    SparseCore.bigSep_erase' (Finset.mem_erase.mpr ⟨hne _ _ (by decide), Finset.mem_erase.mpr ⟨hne _ _ (by decide),
      Finset.mem_erase.mpr ⟨hne _ _ (by decide), hm cc0_scratch9.sem (by decide)⟩⟩⟩)]

/-- A buffer of the subcore's own, at some contents. -/
abbrev somePts (d : Dev nD) (L : grid0.Coords) (r : Ref sig .scVector) : sProp 𝕄 := iprop(∃ f, (thrOf d L).loc r ↦{fullShare} f)
/-- The device's name of the subcore's buffer `r`. -/
abbrev refOf (L : grid0.Coords) (r : Ref sig .scVector) : DevRef τ sig := (Proc.scVector (cV L) (jV L)).devRef r

omit [FloatOps F] in
theorem ownBufs_V :
    (ownBufs (thrOf d L) : sProp 𝕄)
      = iprop(somePts (F := F) d L cc0_scratch0 ∗ somePts (F := F) d L cc0_scratch1 ∗ somePts (F := F) d L cc0_scratch2
          ∗ somePts (F := F) d L cc0_scratch3 ∗ somePts (F := F) d L cc0_scratch4 ∗ somePts (F := F) d L cc0_scratch5
          ∗ bigSep (((((((ownRefs (τ := τ) (.scVector (cV L) (jV L))).erase (refOf L cc0_scratch0)).erase (refOf L cc0_scratch1)).erase
              (refOf L cc0_scratch2)).erase (refOf L cc0_scratch3)).erase (refOf L cc0_scratch4)).erase (refOf L cc0_scratch5))
              fun b => iprop(∃ f, ((d, b) : Loc nD τ sig) ↦{fullShare} f)) := by
  have hne : ∀ r r' : Ref sig .scVector, r ≠ r' → refOf L r ≠ refOf L r' := fun r r' h e => h (Proc.devRef_injective _ e)
  have hm : ∀ r : Ref sig .scVector, (refOf L r).owner = (refOf L cc0_scratch0).owner → refOf L r ∈ ownRefs (τ := τ) (.scVector (cV L) (jV L)) :=
    fun r h => SparseCore.Cfg.mem_ownRefs_of_owner (p := Proc.scVector (cV L) (jV L)) (b := refOf L r) (h.trans rfl)
  unfold SparseCore.Cfg.ownBufs
  refine (SparseCore.bigSep_erase' (hm cc0_scratch0 rfl)).trans ?_
  rw [SparseCore.bigSep_erase' (Finset.mem_erase.mpr ⟨hne _ _ (by decide), hm cc0_scratch1 rfl⟩),
    SparseCore.bigSep_erase' (Finset.mem_erase.mpr ⟨hne _ _ (by decide), Finset.mem_erase.mpr ⟨hne _ _ (by decide), hm cc0_scratch2 rfl⟩⟩),
    SparseCore.bigSep_erase' (Finset.mem_erase.mpr ⟨hne _ _ (by decide), Finset.mem_erase.mpr ⟨hne _ _ (by decide),
      Finset.mem_erase.mpr ⟨hne _ _ (by decide), hm cc0_scratch3 rfl⟩⟩⟩),
    SparseCore.bigSep_erase' (Finset.mem_erase.mpr ⟨hne _ _ (by decide), Finset.mem_erase.mpr ⟨hne _ _ (by decide),
      Finset.mem_erase.mpr ⟨hne _ _ (by decide), Finset.mem_erase.mpr ⟨hne _ _ (by decide), hm cc0_scratch4 rfl⟩⟩⟩⟩),
    SparseCore.bigSep_erase' (Finset.mem_erase.mpr ⟨hne _ _ (by decide), Finset.mem_erase.mpr ⟨hne _ _ (by decide),
      Finset.mem_erase.mpr ⟨hne _ _ (by decide), Finset.mem_erase.mpr ⟨hne _ _ (by decide), Finset.mem_erase.mpr ⟨hne _ _ (by decide),
        hm cc0_scratch5 rfl⟩⟩⟩⟩⟩)]

end Cert.Proof.Launch

end
-- ==== Proof.Steps.lean ====
/-
  What the buffers of a vector subcore hold at each step of its task, as plain functions: the two parts of its mask, the
  accumulators, the two lists of table rows, the two blocks of rows, and its blocks of the result.
-/
module

public import proofs.«01_k».proof.Proof.Subcore
public import Idealize.ShloMosaic.Lib.ValueLayout
public import Idealize.ShloMosaic.Lib.Pipeline.Value

@[expose] public section

set_option maxRecDepth 16384

noncomputable section

namespace Cert.Proof.Launch

open Cert.KernelIdeal Cert.KernelIdeal.Gen Cert.Proof.Values

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable (X : (d : Dev nD) → Buf (Elt F) (tabLoc d)) (M : (d : Dev nD) → Buf (Elt F) (maskLoc d))
  (R : (d : Dev nD) → Buf (Elt F) (outLoc d))

variable (d : Dev nD) (L : grid0.Coords)

/-! ## The two parts of the subcore's mask, fetched -/

/-- What the first fetch leaves: the first 96 times of the subcore's 128 rows. -/
def lowOf (m : Mask) (b : ℕ) : S96x128.Idx → BitVec 32 := fun j => wordAt m (b + (j 1).val) (j 0).val
/-- What the second fetch leaves: the other 104 times. -/
def highOf (m : Mask) (b : ℕ) : S104x128.Idx → BitVec 32 := fun j => wordAt m (b + (j 1).val) (96 + (j 0).val)

omit [FloatOps F] in
/-- The subcore's rows are rows of the mask. -/
theorem base_lt : base L + 128 ≤ 4096 := by
  have h0 : (L 0).val < 2 := (L 0).isLt
  have h1 : (L 1).val < 16 := (L 1).isLt
  unfold base; omega

omit [FloatOps F] in
/-- The mask read at an index of its own is the word there. -/
theorem mask_eq_wordAt (m : Mask) (i : S1x200x4096.Idx) (r t : ℕ) (hr : (i 2).val = r) (ht : (i 1).val = t) :
    m i = wordAt m r t := by
  subst hr ht
  have h : (i 1).val < 200 ∧ (i 2).val < 4096 := ⟨(i 1).isLt, (i 2).isLt⟩
  rw [wordAt, dif_pos h]
  congr 1
  have h0 : (i 0).val < 1 := (i 0).isLt
  refine (eq_ix3 i).trans ?_
  congr 1
  exact Fin.ext (by show (i 0).val = 0; omega)

omit [FloatOps F] in
theorem low_fetched (m : Buf (Elt F) (maskLoc d)) (f : Buf (Elt F) ((thrOf d L).loc cc0_scratch0)) :
    View.write (Elt F) lowV.view f ((lowSrc L).view.read (Elt F) m) Finset.univ = lowOf m (base L) := by
  rw [View.write_whole_univ]
  funext j
  obtain ⟨x, y, rfl⟩ : ∃ x y, j = ix2 x y := ⟨_, _, eq_ix2 j⟩
  have e : (lowSrc L).view.emb (ix2 x y)
      = (Rect.unit (s := S1x200x4096) (k0_off1 L) S1x96x128.size (k0_off1_inb L)).emb (ix3 (⟨0, Nat.one_pos⟩ : Fin 1) x y) :=
    congrArg (fun i => (Rect.unit (s := S1x200x4096) (k0_off1 L) S1x96x128.size (k0_off1_inb L)).emb i) (reshapeEquiv_ix2_1ab _ x y)
  refine (View.read_apply _ _).trans ?_
  rw [e]
  refine mask_eq_wordAt m _ _ _ ?_ ?_
  · show (k0_off1 L 2) + 1 * y.val = base L + y.val
    rw [k0_off1_eq]; simp
  · show (k0_off1 L 1) + 1 * x.val = x.val
    rw [k0_off1_eq]; simp

omit [FloatOps F] in
theorem high_fetched (m : Buf (Elt F) (maskLoc d)) (f : Buf (Elt F) ((thrOf d L).loc cc0_scratch1)) :
    View.write (Elt F) highV.view f ((highSrc L).view.read (Elt F) m) Finset.univ = highOf m (base L) := by
  rw [View.write_whole_univ]
  funext j
  obtain ⟨x, y, rfl⟩ : ∃ x y, j = ix2 x y := ⟨_, _, eq_ix2 j⟩
  have e : (highSrc L).view.emb (ix2 x y)
      = (Rect.unit (s := S1x200x4096) (k0_off2 L) S1x104x128.size (k0_off2_inb L)).emb (ix3 (⟨0, Nat.one_pos⟩ : Fin 1) x y) :=
    congrArg (fun i => (Rect.unit (s := S1x200x4096) (k0_off2 L) S1x104x128.size (k0_off2_inb L)).emb i) (reshapeEquiv_ix2_1ab _ x y)
  refine (View.read_apply _ _).trans ?_
  rw [e]
  refine mask_eq_wordAt m _ _ _ ?_ ?_
  · show (k0_off2 L 2) + 1 * y.val = base L + y.val
    rw [k0_off2_eq]; simp
  · show (k0_off2 L 1) + 1 * x.val = 96 + x.val
    rw [k0_off2_eq]; simp

/-! ## The accumulators -/

/-- The vector `v` holds the sums over `n` times of the rows `b + off` and on. -/
def IsSum (m : Mask) (b off n : ℕ) (v : IVec S16 32) : Prop := ∀ x : S16.Idx, v x = partSum m (b + off + (x 0).val) n

/-- The vector `v` holds the words at time `n` of the rows `b + off` and on. -/
def IsWord (m : Mask) (b off n : ℕ) (v : S1x16.Idx → BitVec 32) : Prop :=
  ∀ x : S1x16.Idx, v x = wordAt m (b + off + (x 1).val) n

abbrev Acc : Type := IVec S16 32 × IVec S16 32 × IVec S16 32 × IVec S16 32 × IVec S16 32 × IVec S16 32 × IVec S16 32 × IVec S16 32

/-- The eight accumulators hold the sums over `n` times of the subcore's 128 rows. -/
structure AllSums (m : Mask) (b n : ℕ) (a : Acc) : Prop where
  g0 : IsSum m b 0 n a.1
  g1 : IsSum m b 16 n a.2.1
  g2 : IsSum m b 32 n a.2.2.1
  g3 : IsSum m b 48 n a.2.2.2.1
  g4 : IsSum m b 64 n a.2.2.2.2.1
  g5 : IsSum m b 80 n a.2.2.2.2.2.1
  g6 : IsSum m b 96 n a.2.2.2.2.2.2.1
  g7 : IsSum m b 112 n a.2.2.2.2.2.2.2

/-- Before the first trip every accumulator is zero. -/
theorem isSum_zero (m : Mask) (b off : ℕ) : IsSum m b off 0 k0_pay1 := fun _ => rfl

/-- One trip adds one time's words. -/
theorem isSum_add {m : Mask} {b off n : ℕ} {a : IVec S16 32} {v : S1x16.Idx → BitVec 32} (ha : IsSum m b off n a)
    (hv : IsWord m b off n v) : IsSum m b off (n + 1) (addi a (shapeCast S16 v shapeCasts_S1x16_S16)) := by
  intro x
  obtain ⟨y, rfl⟩ : ∃ y, x = ix1 y := ⟨_, eq_ix1 x⟩
  show a (ix1 y) + shapeCast S16 v shapeCasts_S1x16_S16 (ix1 y) = _
  rw [ha, show shapeCast S16 v shapeCasts_S1x16_S16 (ix1 y) = v (ix2 (0 : Fin 1) y) from shapeCast_1a_a_apply v _ y, hv]
  rfl

omit [FloatOps F] in
/-- A load of the first part's words at time `n`. -/
theorem isWord_low (m : Mask) (b off n : ℕ) (o : Fin 2 → ℕ) (hin : ∀ a, o a + S1x16.size a ≤ S96x128.size a) (ho : o = ![n, off]) :
    IsWord m b off n (View.readAt (Elt F) lowV.view (Rect.unit (s := S96x128) o S1x16.size hin).toLoadRect (lowOf m b)) := by
  subst ho
  intro x
  have h0 : (x 0).val < 1 := (x 0).isLt
  show wordAt m (b + (off + 1 * (x 1).val)) (n + 1 * (x 0).val) = _
  rw [show n + 1 * (x 0).val = n by omega, show b + (off + 1 * (x 1).val) = b + off + (x 1).val by omega]

omit [FloatOps F] in
/-- A load of the second part's words, at time `96 + n`. -/
theorem isWord_high (m : Mask) (b off n : ℕ) (o : Fin 2 → ℕ) (hin : ∀ a, o a + S1x16.size a ≤ S104x128.size a) (ho : o = ![n, off]) :
    IsWord m b off (96 + n) (View.readAt (Elt F) highV.view (Rect.unit (s := S104x128) o S1x16.size hin).toLoadRect (highOf m b)) := by
  subst ho
  intro x
  have h0 : (x 0).val < 1 := (x 0).isLt
  show wordAt m (b + (off + 1 * (x 1).val)) (96 + (n + 1 * (x 0).val)) = _
  rw [show 96 + (n + 1 * (x 0).val) = 96 + n by omega, show b + (off + 1 * (x 1).val) = b + off + (x 1).val by omega]

/-! ## The lists of table rows -/

/-- The list of the table's rows for the 64 rows of the result from `r` on. -/
def listOf (m : Mask) (r : ℕ) : S64.Idx → BitVec 32 := fun j => tableRow m (r + (j 0).val)

/-- The vector `p` is the part of that list from `r` on. -/
def IsRows (m : Mask) (r : ℕ) (p : S16.Idx → BitVec 32) : Prop := ∀ x : S16.Idx, p x = tableRow m (r + (x 0).val)

/-- The first row of the subcore, as the kernel works it out. -/
theorem base_word : Scalar.muli (Scalar.addi (Scalar.muli (BitVec.ofNat 32 (L 1).val) 2#32) (BitVec.ofNat 32 (L 0).val)) 128#32
    = BitVec.ofNat 32 (base L) := by
  show (BitVec.ofNat 32 (L 1).val * 2#32 + BitVec.ofNat 32 (L 0).val) * 128#32 = _
  rw [← BitVec.ofNat_mul, ← BitVec.ofNat_add, ← BitVec.ofNat_mul]
  congr 1
  unfold base; omega

/-- One group's vector of table rows. -/
theorem isRows_group {m : Mask} {b off : ℕ} {a : IVec S16 32} (ha : IsSum m b off 200 a) (x : S16.Idx) :
    (BitVec.ofNat 32 b + BitVec.ofNat 32 off + BitVec.ofNat 32 (x 0).val) * 200#32
      + (if a x = 0#32 then 199#32 else a x - 1#32) = tableRow m (b + off + (x 0).val) := by
  rw [← stored_word, ← ha x]; rfl

/-- The vector of lane numbers. -/
theorem lane_word (x : S16.Idx) : iota .scVector S16 32 [0] iota_S16_d0_w32_scVector x = BitVec.ofNat 32 (x 0).val :=
  iota_single_apply _ _ _ _ _ x

/-- A row's last time as the kernel selects it. -/
theorem select_last (s : BitVec 32) : Scalar.select (IntOp.cmpi .eq s 0#32) 199#32 (s - 1#32) = if s = 0#32 then 199#32 else s - 1#32 := by
  show (if BitVec.ofBool (s == 0#32) = 1#1 then 199#32 else s - 1#32) = _
  by_cases h : s = 0#32
  · subst h; rfl
  · have h' : (s == 0#32) = false := beq_eq_false_iff_ne.mpr h
    rw [if_neg h, h', if_neg (by decide)]

/-- One group's stored vector, lane by lane. -/
theorem isRows_of {m : Mask} {b off : ℕ} {a p : IVec S16 32} (ha : IsSum m b off 200 a)
    (hp : ∀ x, p x = (BitVec.ofNat 32 b + BitVec.ofNat 32 off + iota .scVector S16 32 [0] iota_S16_d0_w32_scVector x) * 200#32
      + Scalar.select (IntOp.cmpi .eq (a x) 0#32) 199#32 (a x - 1#32)) : IsRows m (b + off) p := fun x => by
  rw [hp, lane_word, select_last]; exact isRows_group ha x

theorem isRows_pay20 {m : Mask} {b : ℕ} {v : BitVec 32} {a : IVec S16 32} (hv : v = BitVec.ofNat 32 b) (ha : IsSum m b 0 200 a) :
    IsRows m (b + 0) (k0_pay20 v (iota .scVector S16 32 [0] iota_S16_d0_w32_scVector) (k0_pay18 a) (k0_pay19 a)) :=
  hv ▸ isRows_of ha fun x => by
    unfold k0_pay20; dsimp only; rw [shapeCast_self]; rfl

theorem isRows_pay21 {m : Mask} {b : ℕ} {v : BitVec 32} {a : IVec S16 32} (hv : v = BitVec.ofNat 32 b) (ha : IsSum m b 16 200 a) :
    IsRows m (b + 16) (k0_pay21 v (iota .scVector S16 32 [0] iota_S16_d0_w32_scVector) a) :=
  hv ▸ isRows_of ha fun x => by
    unfold k0_pay21; dsimp only; rw [shapeCast_self]; rfl

theorem isRows_pay22 {m : Mask} {b : ℕ} {v : BitVec 32} {a : IVec S16 32} (hv : v = BitVec.ofNat 32 b) (ha : IsSum m b 32 200 a) :
    IsRows m (b + 32) (k0_pay22 v (iota .scVector S16 32 [0] iota_S16_d0_w32_scVector) a) :=
  hv ▸ isRows_of ha fun x => by
    unfold k0_pay22; dsimp only; rw [shapeCast_self]; rfl

theorem isRows_pay23 {m : Mask} {b : ℕ} {v : BitVec 32} {a : IVec S16 32} (hv : v = BitVec.ofNat 32 b) (ha : IsSum m b 48 200 a) :
    IsRows m (b + 48) (k0_pay23 v (iota .scVector S16 32 [0] iota_S16_d0_w32_scVector) a) :=
  hv ▸ isRows_of ha fun x => by
    unfold k0_pay23; dsimp only; rw [shapeCast_self]; rfl

theorem isRows_pay24 {m : Mask} {b : ℕ} {v : BitVec 32} {a : IVec S16 32} (hv : v = BitVec.ofNat 32 b) (ha : IsSum m b 64 200 a) :
    IsRows m (b + 64) (k0_pay24 v (iota .scVector S16 32 [0] iota_S16_d0_w32_scVector) a) :=
  hv ▸ isRows_of ha fun x => by
    unfold k0_pay24; dsimp only; rw [shapeCast_self]; rfl

theorem isRows_pay28 {m : Mask} {b : ℕ} {v : BitVec 32} {a : IVec S16 32} (hv : v = BitVec.ofNat 32 b) (ha : IsSum m b 96 200 a) :
    IsRows m (b + 96) (k0_pay28 v (iota .scVector S16 32 [0] iota_S16_d0_w32_scVector) a) :=
  hv ▸ isRows_of ha fun x => by
    unfold k0_pay28; dsimp only; rw [shapeCast_self]; rfl

theorem isRows_pay29 {m : Mask} {b : ℕ} {v : BitVec 32} {a : IVec S16 32} (hv : v = BitVec.ofNat 32 b) (ha : IsSum m b 112 200 a) :
    IsRows m (b + 112) (k0_pay29 v (iota .scVector S16 32 [0] iota_S16_d0_w32_scVector) a) :=
  hv ▸ isRows_of ha fun x => by
    unfold k0_pay29; dsimp only; rw [shapeCast_self]; rfl

theorem isRows_pay27 {m : Mask} {b : ℕ} {v : BitVec 32} {a : IVec S16 32} (hv : v = BitVec.ofNat 32 b) (ha : IsSum m b 80 200 a) :
    IsRows m (b + 80) (k0_pay27 (k0_pay25 a) (k0_pay26 v (iota .scVector S16 32 [0] iota_S16_d0_w32_scVector))) :=
  hv ▸ isRows_of ha fun x => by
    unfold k0_pay27; dsimp only; rw [shapeCast_self]; rfl

/-- Four groups stored one after another fill the list. -/
theorem list_filled {κ : Kind} {sp : Space} (v : View sig κ sp S64 .i32) (f : v.ty.Contents (Elt F)) (m : Mask) (r : ℕ)
    (p0 p1 p2 p3 : S16.Idx → BitVec 32) (h0 : IsRows m r p0) (h1 : IsRows m (r + 16) p1) (h2 : IsRows m (r + 32) p2)
    (h3 : IsRows m (r + 48) p3) :
    v.read (Elt F) (v.writes (Elt F) f
      [⟨Rect.unit ![48] S16.size inb_S64_S16_48, p3⟩, ⟨Rect.unit ![32] S16.size inb_S64_S16_32, p2⟩,
        ⟨Rect.unit ![16] S16.size inb_S64_S16_16, p1⟩, ⟨Rect.unit ![0] S16.size inb_S64_S16_0, p0⟩]) = listOf m r := by
  funext y
  refine View.read_writes_apply_of_pieces (Val := Elt F) v f (listOf m r) _ ?_ y ?_
  · intro p hp x
    simp only [List.mem_cons, List.not_mem_nil, or_false] at hp
    rcases hp with rfl | rfl | rfl | rfl
    · refine (h3 x).trans ?_
      show _ = tableRow m (r + (48 + 1 * (x 0).val)); congr 1; omega
    · refine (h2 x).trans ?_
      show _ = tableRow m (r + (32 + 1 * (x 0).val)); congr 1; omega
    · refine (h1 x).trans ?_
      show _ = tableRow m (r + (16 + 1 * (x 0).val)); congr 1; omega
    · refine (h0 x).trans ?_
      show _ = tableRow m (r + (0 + 1 * (x 0).val)); congr 1; omega
  · have hy : (y 0).val < 64 := (y 0).isLt
    have hm : ∀ (o : ℕ) (hin : ∀ a, ![o] a + S16.size a ≤ S64.size a), o ≤ (y 0).val → (y 0).val < o + 16 →
        y ∈ (Rect.unit (s := S64) ![o] S16.size hin).set := fun o hin h1 h2 => Rect.mem_set_unit.mpr fun a => by
      match a with
      | 0 => exact ⟨h1, h2⟩
    by_cases c3 : 48 ≤ (y 0).val
    · exact ⟨_, List.mem_cons_self, hm 48 inb_S64_S16_48 c3 (by omega)⟩
    by_cases c2 : 32 ≤ (y 0).val
    · exact ⟨_, List.mem_cons_of_mem _ List.mem_cons_self, hm 32 inb_S64_S16_32 c2 (by omega)⟩
    by_cases c1 : 16 ≤ (y 0).val
    · exact ⟨_, List.mem_cons_of_mem _ (List.mem_cons_of_mem _ List.mem_cons_self), hm 16 inb_S64_S16_16 c1 (by omega)⟩
    · exact ⟨_, List.mem_cons_of_mem _ (List.mem_cons_of_mem _ (List.mem_cons_of_mem _ List.mem_cons_self)), hm 0 inb_S64_S16_0 (by omega) (by omega)⟩

omit [FloatOps F] in
/-- Every entry of the list is a row of the table. -/
theorem list_lt {m : Mask} (hm : IsBits m) {r : ℕ} (hr : r + 64 ≤ 4096) (x : S64.Idx) : (listOf m r x).toNat < 819200 := by
  have : (x 0).val < 64 := (x 0).isLt
  exact tableRow_lt hm (by omega)

/-! ## The blocks of rows -/

/-- The rows of the table that the list from `r` on names. -/
def blockOf (t : S819200x128.Idx → Elt F .f32) (m : Mask) (r : ℕ) : S64x128.Idx → Elt F .f32 := fun j =>
  t (ix2 ⟨(tableRow m (r + (j 0).val)).toNat % 819200, Nat.mod_lt _ (by decide)⟩ (j 1))

/-- What the gather by the list lands. -/
theorem block_gathered (t : Buf (Elt F) (tabLoc d)) (m : Mask) (hm : IsBits m) (r : ℕ) (hr : r + 64 ≤ 4096)
    (hn : S64.numel = S64x128.size (gathers_S819200x128_S64x128).axis')
    (hin : ∀ x, (listOf m r x).toNat < S819200x128.size (gathers_S819200x128_S64x128).axis) :
    SparseCore.gatherPayload (F := F) gathers_S819200x128_S64x128 (tabAll.view.read (Elt F) t)
        (SparseCore.rows (F := F) (listOf m r) hn hin) = blockOf (F := F) t m r := by
  funext j
  have hj : (j 0).val < 64 := (j 0).isLt
  have hlt : (tableRow m (r + (j 0).val)).toNat < 819200 := tableRow_lt hm (by omega)
  have e0 : ((gathers_S819200x128_S64x128).idx (SparseCore.rows (F := F) (listOf m r) hn hin) j (gathers_S819200x128_S64x128).axis).val
      = (tableRow m (r + (j 0).val)).toNat := by
    rw [Shape.Gathers.idx_axis]
    show (listOf m r (S64.rowMajor.symm ((j 0).cast hn.symm))).toNat = _
    unfold listOf
    congr 3
    rw [← Shape.rowMajor_val_one (S64.rowMajor.symm ((j 0).cast hn.symm)), Equiv.apply_symm_apply]
    rfl
  have e1 : ((gathers_S819200x128_S64x128).idx (SparseCore.rows (F := F) (listOf m r) hn hin) j (1 : Fin 2)).val = (j 1).val :=
    Shape.Gathers.idx_of_ne (gathers_S819200x128_S64x128) _ j (1 : Fin 2) Nat.one_ne_zero
  show t ((Rect.unit (s := S819200x128) ![0, 0] S819200x128.size inb_S819200x128_S819200x128_0_0).emb
    ((gathers_S819200x128_S64x128).idx (SparseCore.rows (F := F) (listOf m r) hn hin) j)) = _
  unfold blockOf
  congr 1
  funext a
  apply Fin.ext
  match a with
  | 0 =>
    show 0 + 1 * ((gathers_S819200x128_S64x128).idx (SparseCore.rows (F := F) (listOf m r) hn hin) j (gathers_S819200x128_S64x128).axis).val
      = (tableRow m (r + (j 0).val)).toNat % 819200
    rw [e0, Nat.mod_eq_of_lt hlt]; omega
  | 1 =>
    show 0 + 1 * ((gathers_S819200x128_S64x128).idx (SparseCore.rows (F := F) (listOf m r) hn hin) j (1 : Fin 2)).val = (j 1).val
    rw [e1]; omega

omit [FloatOps F] in
/-- The result read at an index, by its two coordinates. -/
theorem picked_at (t : S819200x128.Idx → Elt F .f32) (m : Mask) (i : S4096x128.Idx) (r : ℕ) (y : Fin 128) (h0 : (i 0).val = r) (h1 : (i 1).val = y.val) :
    t (ix2 ⟨(tableRow m r).toNat % 819200, Nat.mod_lt _ (by decide)⟩ y) = picked t m i := by
  subst h0
  obtain rfl : i 1 = y := Fin.ext h1
  rfl

omit [FloatOps F] in
/-- What a subcore's first block of the result holds after its copy. -/
theorem outA_filled (f : Buf (Elt F) (outLoc d)) (t : S819200x128.Idx → Elt F .f32) (m : Mask) :
    ∀ i ∈ (outA L).view.set, (outA L).view.writes (Elt F) f [⟨Rect.whole S64x128, blockOf (F := F) t m (base L)⟩] i = picked t m i := by
  intro i hi
  obtain ⟨x, -, rfl⟩ := Finset.mem_map.mp hi
  have hx : (x 0).val < 64 := (x 0).isLt
  refine (congrFun (View.read_writes_whole (Val := Elt F) (outA L).view f (blockOf (F := F) t m (base L))) x).trans ?_
  refine picked_at t m ((outA L).view.emb x) (base L + (x 0).val) (x 1) ?_ ?_
  · show k0_off19 L 0 + 1 * (x 0).val = _
    rw [k0_off19_eq]; simp [base]
  · show k0_off19 L 1 + 1 * (x 1).val = _
    rw [k0_off19_eq]; simp

omit [FloatOps F] in
/-- What a subcore's second block of the result holds after its copy. -/
theorem outB_filled (f : Buf (Elt F) (outLoc d)) (t : S819200x128.Idx → Elt F .f32) (m : Mask) :
    ∀ i ∈ (outB L).view.set, (outB L).view.writes (Elt F) f [⟨Rect.whole S64x128, blockOf (F := F) t m (base L + 64)⟩] i = picked t m i := by
  intro i hi
  obtain ⟨x, -, rfl⟩ := Finset.mem_map.mp hi
  have hx : (x 0).val < 64 := (x 0).isLt
  refine (congrFun (View.read_writes_whole (Val := Elt F) (outB L).view f (blockOf (F := F) t m (base L + 64))) x).trans ?_
  refine picked_at t m ((outB L).view.emb x) (base L + 64 + (x 0).val) (x 1) ?_ ?_
  · show k0_off20 L 0 + 1 * (x 0).val = _
    rw [k0_off20_eq]; simp [base]
  · show k0_off20 L 1 + 1 * (x 1).val = _
    rw [k0_off20_eq]; simp

/-- The second loop's trips. -/
theorem trips_second : 96 + Scf.trips k0_t2_loop.lb k0_t2_loop.ub k0_t2_loop.st = 200 := by decide

end Cert.Proof.Launch

end
-- ==== Proof.Tile.lean ====
/-
  One vector subcore's task.
-/
module

public import proofs.«01_k».proof.Proof.Steps

@[expose] public section

set_option maxRecDepth 16384

noncomputable section

namespace Cert.Proof.Launch

open Cert.KernelIdeal Cert.KernelIdeal.Gen Cert.Proof.Values

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable (X : (d : Dev nD) → Buf (Elt F) (tabLoc d)) (M : (d : Dev nD) → Buf (Elt F) (maskLoc d))
  (R : (d : Dev nD) → Buf (Elt F) (outLoc d))

variable (d : Dev nD) (L : grid0.Coords)

/-- The first loop's invariant. -/
def lowInv (n : ℕ) (a : Acc) : sProp 𝕄 :=
  iprop(⌜AllSums (M d) (base L) n a⌝ ∗ (lowV.view.loc (thrOf d L) ↦{fullShare} (lowOf (M d) (base L) : Buf (Elt F) ((thrOf d L).loc cc0_scratch0))))
/-- The second loop's invariant. -/
def highInv (n : ℕ) (a : Acc) : sProp 𝕄 :=
  iprop(⌜AllSums (M d) (base L) (96 + n) a⌝ ∗ (highV.view.loc (thrOf d L) ↦{fullShare} (highOf (M d) (base L) : Buf (Elt F) ((thrOf d L).loc cc0_scratch1))))

/-- The task's last part: the first block sent off, the second gathered and sent off, both waited for. The two blocks of
    the result are under their names. -/
def sendOff : Prog (TpuEff nD τ sig (Elt F) Λ₀ (.scVector (cV L) (jV L))) PUnit := do
  Prog.lift (.enqueueDma rowsAV (.here (outA L)) (.dma cc0_scratch9.sem) (Memref.isWhole_whole _).wordExact (View.wordExact_bits rfl) ⟨Or.inl rfl, trivial⟩)
  SparseCore.enqueueIndirectGather rfl tabAll rowsBV gathers_S819200x128_S64x128 listBV rfl cc0_scratch8.sem (View.wordExact_bits rfl) rfl (Or.inl rfl)
  SparseCore.waitIndirectGather cc0_scratch8.sem tabAll rowsBV (View.wordExact_bits rfl) (Memref.isWhole_whole _).wordExact
  Prog.lift (.enqueueDma rowsBV (.here (outB L)) (.dma cc0_scratch9.sem) (Memref.isWhole_whole _).wordExact (View.wordExact_bits rfl) ⟨Or.inl rfl, trivial⟩)
  Prog.lift (.waitDma2 cc0_scratch9.sem rowsAV (outA L) (Memref.isWhole_whole _).wordExact (View.wordExact_bits rfl))
  Prog.lift (.waitDma2 cc0_scratch9.sem rowsBV (outB L) (Memref.isWhole_whole _).wordExact (View.wordExact_bits rfl))
  pure ⟨⟩

/-- The task, its last part by name. -/
theorem task_eq :
    cc0__sc_body (F := F) L tabV (Memref.isWhole_whole _) maskV (Memref.isWhole_whole _) outV (Memref.isWhole_whole _) lowV (Memref.isWhole_whole _) highV (Memref.isWhole_whole _) listAV (Memref.isWhole_whole _) listBV (Memref.isWhole_whole _) rowsAV (Memref.isWhole_whole _) rowsBV (Memref.isWhole_whole _) cc0_scratch6 cc0_scratch7 cc0_scratch8 cc0_scratch9
    = (do
      let ⟨v2, v11, v24_1, v24_2, v24_3, v24_4, v24_5, v24_6, v24_7, v26, v28⟩ ← k0_part1 (F := F) L tabV (Memref.isWhole_whole _) maskV (Memref.isWhole_whole _) outV (Memref.isWhole_whole _) lowV (Memref.isWhole_whole _) highV (Memref.isWhole_whole _) listAV (Memref.isWhole_whole _) listBV (Memref.isWhole_whole _) rowsAV (Memref.isWhole_whole _) rowsBV (Memref.isWhole_whole _) cc0_scratch6 cc0_scratch7 cc0_scratch8 cc0_scratch9
      k0_part2 (F := F) L tabV (Memref.isWhole_whole _) maskV (Memref.isWhole_whole _) outV (Memref.isWhole_whole _) lowV (Memref.isWhole_whole _) highV (Memref.isWhole_whole _) listAV (Memref.isWhole_whole _) listBV (Memref.isWhole_whole _) rowsAV (Memref.isWhole_whole _) rowsBV (Memref.isWhole_whole _) cc0_scratch6 cc0_scratch7 cc0_scratch8 cc0_scratch9 v2 v11 v24_1 v24_2 v26 v28
      let ⟨v105, v110⟩ ← k0_part3 (F := F) L tabV (Memref.isWhole_whole _) maskV (Memref.isWhole_whole _) outV (Memref.isWhole_whole _) lowV (Memref.isWhole_whole _) highV (Memref.isWhole_whole _) listAV (Memref.isWhole_whole _) listBV (Memref.isWhole_whole _) rowsAV (Memref.isWhole_whole _) rowsBV (Memref.isWhole_whole _) cc0_scratch6 cc0_scratch7 cc0_scratch8 cc0_scratch9 v2 v11 v24_3 v24_4 v24_5
      k0_part4 (F := F) L tabV (Memref.isWhole_whole _) maskV (Memref.isWhole_whole _) outV (Memref.isWhole_whole _) lowV (Memref.isWhole_whole _) highV (Memref.isWhole_whole _) listAV (Memref.isWhole_whole _) listBV (Memref.isWhole_whole _) rowsAV (Memref.isWhole_whole _) rowsBV (Memref.isWhole_whole _) cc0_scratch6 cc0_scratch7 cc0_scratch8 cc0_scratch9 v2 v11 v24_6 v24_7 v105 v110
      sendOff (F := F) L) := by
  rw [cc0__sc_body_eq_skeleton]; rfl

set_option maxHeartbeats 4000000 in
theorem tile_body (hF : (K (F := F)).Facts) (hM : IsBits (M d)) (O : CellTallies nD τ sig (HIx 1)) (W : Waits sig (HIx 1)) (hO : ∀ g, O g none = 0) :
    iprop(levAts (K (F := F)).L (K (F := F)).lev ∗ emp ∗ tilePts X M d (wOf L) (R d)
        ∗ scopedBufs (thrOf d L) ∗ scopedSems0 (thrOf d L) ∗ owes (thrOf d L) O W)
      ⊢ wp frame (wpE (defs₀ (F := F)) 𝒱₀ (thrOf d L) none) Set.univ
          (cc0__sc_body L tabV (Memref.isWhole_whole _) maskV (Memref.isWhole_whole _) outV (Memref.isWhole_whole _)
            lowV (Memref.isWhole_whole _) highV (Memref.isWhole_whole _) listAV (Memref.isWhole_whole _) listBV (Memref.isWhole_whole _)
            rowsAV (Memref.isWhole_whole _) rowsBV (Memref.isWhole_whole _) cc0_scratch6 cc0_scratch7 cc0_scratch8 cc0_scratch9)
          fun _ => iprop(tilePts X M d (wOf L) (resOf X M d)
            ∗ scopedBufs (thrOf d L) ∗ scopedSems0 (thrOf d L)
            ∗ ∃ W', ⌜∀ p ∈ W', p ∈ W ∨ p.2 = none⌝ ∗ owes (thrOf d L) O W') := by
  rw [task_eq]
  simp only [k0_part1_eq_skeleton, k0_part2_eq_skeleton, k0_part3_eq_skeleton, k0_part4_eq_skeleton]
  unfold k0_part1_skel k0_part2_skel k0_part3_skel k0_part4_skel sendOff
  rw [wp_bind]
  rw [(K (F := F)).scopedBufs_V hF d (cV L) (jV L), SparseCore.Cfg.scopedSems0_V (Val := Elt F) d (cV L) (jV L), ownSems0_V, ownBufs_V]
  iintro ⟨#Hlv, -, ⟨Ht, Hm, HoA, HoB⟩, ⟨⟨%f0, H0⟩, ⟨%f1, H1⟩, ⟨%f2, H2⟩, ⟨%f3, H3⟩, ⟨%f4, H4⟩, ⟨%f5, H5⟩, Hbufs⟩, ⟨Hs6, Hs7, Hs8, Hs9, Hsems⟩, HO⟩
  ihave Hmw := (show levAts (K (F := F)).L (K (F := F)).lev ⊢ Transfers.MayWaits (thrOf d L) (default : HIx 1) O from
    (K (F := F)).mayWaits_none (thr := thrOf d L) hO) $$ Hlv
  ihave HoA := (Entails.of_eq (pts_outA (F := F) d L _).symm) $$ HoA
  ihave HoB := (Entails.of_eq (pts_outB (F := F) d L _).symm) $$ HoB
  ihave Ht := (Entails.of_eq (show (tabPts X d (wOf L) : sProp 𝕄) = ((tabV).view.loc (thrOf d L) ↦{shareOf (wOf L)} X d) from rfl)) $$ Ht
  ihave Hm := (Entails.of_eq (show (maskPts M d (wOf L) : sProp 𝕄) = ((maskV).view.loc (thrOf d L) ↦{shareOf (wOf L)} M d) from rfl)) $$ Hm
  ihave H0 := (Entails.of_eq (show (((thrOf d L).loc cc0_scratch0 ↦{fullShare} f0) : sProp 𝕄) = ((lowV).view.loc (thrOf d L) ↦{fullShare} f0) from rfl)) $$ H0
  ihave H1 := (Entails.of_eq (show (((thrOf d L).loc cc0_scratch1 ↦{fullShare} f1) : sProp 𝕄) = ((highV).view.loc (thrOf d L) ↦{fullShare} f1) from rfl)) $$ H1
  ihave H2 := (Entails.of_eq (show (((thrOf d L).loc cc0_scratch2 ↦{fullShare} f2) : sProp 𝕄) = ((listAV).view.loc (thrOf d L) ↦{fullShare} f2) from rfl)) $$ H2
  ihave H3 := (Entails.of_eq (show (((thrOf d L).loc cc0_scratch3 ↦{fullShare} f3) : sProp 𝕄) = ((listBV).view.loc (thrOf d L) ↦{fullShare} f3) from rfl)) $$ H3
  ihave H4 := (Entails.of_eq (show (((thrOf d L).loc cc0_scratch4 ↦{fullShare} f4) : sProp 𝕄) = ((rowsAV).view.loc (thrOf d L) ↦{fullShare} f4) from rfl)) $$ H4
  ihave H5 := (Entails.of_eq (show (((thrOf d L).loc cc0_scratch5 ↦{fullShare} f5) : sProp 𝕄) = ((rowsBV).view.loc (thrOf d L) ↦{fullShare} f5) from rfl)) $$ H5
  sl_exec
  ihave H0 := (Entails.of_eq (show (lowV.view.loc (thrOf d L) ↦{fullShare} View.write (Elt F) lowV.view f0 (tile_body.sl.dma0 M d L) Finset.univ : sProp 𝕄)
      = (lowV.view.loc (thrOf d L) ↦{fullShare} lowOf (M d) (base L)) from congrArg _ (low_fetched d L (M d) f0))) $$ H0
  sl_for (lowInv M d L) $$ [H0]
  case region =>
    intro k a
    unfold lowInv
    iintro ⟨%hs, H0⟩
    sl_exec
    rw [wp_ret]
    imodintro
    isplitr
    · ipureintro
      exact ⟨isSum_add hs.g0 (isWord_low _ _ _ _ _ _ (k0_off3_eq k)), isSum_add hs.g1 (isWord_low _ _ _ _ _ _ (k0_off4_eq k)),
        isSum_add hs.g2 (isWord_low _ _ _ _ _ _ (k0_off5_eq k)), isSum_add hs.g3 (isWord_low _ _ _ _ _ _ (k0_off6_eq k)),
        isSum_add hs.g4 (isWord_low _ _ _ _ _ _ (k0_off7_eq k)), isSum_add hs.g5 (isWord_low _ _ _ _ _ _ (k0_off8_eq k)),
        isSum_add hs.g6 (isWord_low _ _ _ _ _ _ (k0_off9_eq k)), isSum_add hs.g7 (isWord_low _ _ _ _ _ _ (k0_off10_eq k))⟩
    · iexact H0
  · unfold lowInv
    isplitr
    · ipureintro
      exact ⟨isSum_zero _ _ _, isSum_zero _ _ _, isSum_zero _ _ _, isSum_zero _ _ _, isSum_zero _ _ _, isSum_zero _ _ _,
        isSum_zero _ _ _, isSum_zero _ _ _⟩
    · iexact H0
  iintro %a HI
  unfold lowInv
  icases HI with ⟨%hs, H0⟩
  sl_exec
  ihave H1 := (Entails.of_eq (show (highV.view.loc (thrOf d L) ↦{fullShare} View.write (Elt F) highV.view f1 (tile_body.sl.dma0_1 M d L) Finset.univ : sProp 𝕄)
      = (highV.view.loc (thrOf d L) ↦{fullShare} highOf (M d) (base L)) from congrArg _ (high_fetched d L (M d) f1))) $$ H1
  sl_for (highInv M d L) $$ [H1]
  case region =>
    intro k a
    unfold highInv
    iintro ⟨%hs, H1⟩
    sl_exec
    rw [wp_ret]
    imodintro
    isplitr
    · ipureintro
      exact ⟨isSum_add hs.g0 (isWord_high _ _ _ _ _ _ (k0_off11_eq k)), isSum_add hs.g1 (isWord_high _ _ _ _ _ _ (k0_off12_eq k)),
        isSum_add hs.g2 (isWord_high _ _ _ _ _ _ (k0_off13_eq k)), isSum_add hs.g3 (isWord_high _ _ _ _ _ _ (k0_off14_eq k)),
        isSum_add hs.g4 (isWord_high _ _ _ _ _ _ (k0_off15_eq k)), isSum_add hs.g5 (isWord_high _ _ _ _ _ _ (k0_off16_eq k)),
        isSum_add hs.g6 (isWord_high _ _ _ _ _ _ (k0_off17_eq k)), isSum_add hs.g7 (isWord_high _ _ _ _ _ _ (k0_off18_eq k))⟩
    · iexact H1
  · unfold highInv
    isplitr
    · ipureintro
      exact hs
    · iexact H1
  iintro %a HI
  unfold highInv
  icases HI with ⟨%hs, H1⟩
  sl_exec
  have hs' : AllSums (M d) (base L) 200 a := trips_second ▸ hs
  have hb := base_lt L
  have eA : listAV.view.writes (Elt F) listAV.view.junk (tile_body.sl.H2_4 L a) = listOf (M d) (base L) :=
    list_filled (F := F) listAV.view _ (M d) (base L) _ _ _ _ (isRows_pay20 (base_word L) hs'.g0) (isRows_pay21 (base_word L) hs'.g1)
      (isRows_pay22 (base_word L) hs'.g2) (isRows_pay23 (base_word L) hs'.g3)
  have eB : listBV.view.writes (Elt F) f3
      [⟨Rect.unit ![48] S16.size inb_S64_S16_48, k0_pay29 (tile_body.sl.v2 L) tile_body.sl.v11 (tile_body.sl.r_6 a)⟩,
        ⟨Rect.unit ![32] S16.size inb_S64_S16_32, k0_pay28 (tile_body.sl.v2 L) tile_body.sl.v11 (tile_body.sl.r_5 a)⟩,
        ⟨Rect.unit ![16] S16.size inb_S64_S16_16,
          k0_pay27 (k0_pay25 (tile_body.sl.r_4 a)) (k0_pay26 (tile_body.sl.v2 L) tile_body.sl.v11)⟩,
        ⟨Rect.unit ![0] S16.size inb_S64_S16_0, k0_pay24 (tile_body.sl.v2 L) tile_body.sl.v11 (tile_body.sl.r_3 a)⟩]
      = listOf (M d) (base L + 64) :=
    list_filled (F := F) listBV.view _ (M d) (base L + 64) _ _ _ _ (isRows_pay24 (base_word L) hs'.g4) (isRows_pay27 (base_word L) hs'.g5)
      (isRows_pay28 (base_word L) hs'.g6) (isRows_pay29 (base_word L) hs'.g7)
  ihave H2 := (Entails.of_eq (congrArg (fun f => (listAV.view.loc (thrOf d L) ↦{fullShare} f : sProp 𝕄)) eA)) $$ H2
  ihave H3 := (Entails.of_eq (show (_ : sProp 𝕄) = (listBV.view.loc (thrOf d L) ↦{fullShare} listOf (M d) (base L + 64)) from
    congrArg (fun f => (listBV.view.loc (thrOf d L) ↦{fullShare} f : sProp 𝕄)) eB)) $$ H3
  have hinA : ∀ x, (listAV.view.read (Elt F) (listOf (M d) (base L)) x).toNat < S819200x128.size gathers_S819200x128_S64x128.axis :=
    list_lt hM (by omega)
  have hinB : ∀ x, (listBV.view.read (Elt F) (listOf (M d) (base L + 64)) x).toNat < S819200x128.size gathers_S819200x128_S64x128.axis :=
    list_lt hM (by omega)
  have _plan : Transfers.BatchOf (thrOf d L) (SemLoc.dma cc0_scratch9.sem) 2 := trivial
  sl_exec
  have g1 : tile_body.sl.dma1 X M d L f4 hinA = blockOf (F := F) (X d) (M d) (base L) :=
    (View.read_writes_whole (Val := Elt F) rowsAV.view f4 _).trans (block_gathered d (X d) (M d) hM _ (by omega) _ _)
  have g3 : tile_body.sl.dma3 X M d L f5 hinB = blockOf (F := F) (X d) (M d) (base L + 64) :=
    (View.read_writes_whole (Val := Elt F) rowsBV.view f5 _).trans (block_gathered d (X d) (M d) hM _ (by omega) _ _)
  ihave HoA := (Entails.of_eq ((congrArg (fun w => ((outA L).view.loc (thrOf d L) ↦[(outA L).view.set]{fullShare}
      (outA L).view.writes (Elt F) (R d) [⟨Rect.whole S64x128, w⟩] : sProp 𝕄)) g1).trans
    ((pointsTo_congr (outA_filled d L (R d) (X d) (M d))).trans (pts_outA (F := F) d L (resOf X M d))))) $$ HoA
  ihave HoB := (Entails.of_eq ((congrArg (fun w => ((outB L).view.loc (thrOf d L) ↦[(outB L).view.set]{fullShare}
      (outB L).view.writes (Elt F) (R d) [⟨Rect.whole S64x128, w⟩] : sProp 𝕄)) g3).trans
    ((pointsTo_congr (outB_filled d L (R d) (X d) (M d))).trans (pts_outB (F := F) d L (resOf X M d))))) $$ HoB
  rw [wp_ret]
  imodintro
  isplitl [Ht Hm HoA HoB]
  · unfold tilePts
    isplitl [Ht]; · iexact Ht
    isplitl [Hm]; · iexact Hm
    isplitl [HoA]; · iexact HoA
    iexact HoB
  isplitl [H0 H1 H2 H3 H4 H5 Hbufs]
  · isplitl [H0]; · unfold somePts; iexists _; iexact H0
    isplitl [H1]; · unfold somePts; iexists _; iexact H1
    isplitl [H2]; · unfold somePts; iexists _; iexact H2
    isplitl [H3]; · unfold somePts; iexists _; iexact H3
    isplitl [H4]; · unfold somePts; iexists _; iexact H4
    isplitl [H5]; · unfold somePts; iexists _; iexact H5
    iexact Hbufs
  isplitl [Hs6 Hs7 Hs8 Hs9 Hsems]
  · isplitl [Hs6]; · iexact Hs6
    isplitl [Hs7]; · iexact Hs7
    isplitl [Hs8]; · iexact Hs8
    isplitl [Hs9]; · iexact Hs9
    iexact Hsems
  iexists (insert (SemLoc.dma cc0_scratch9.sem, default) (insert (SemLoc.dma cc0_scratch9.sem, default)
    (insert (SemLoc.dma cc0_scratch8.sem, default) (insert (SemLoc.dma cc0_scratch8.sem, default)
      (insert (SemLoc.dma cc0_scratch7.sem, default) (insert (SemLoc.dma cc0_scratch6.sem, default) W))))))
  isplitr
  · ipureintro
    intro p hp
    simp only [Finset.mem_insert] at hp
    rcases hp with rfl | rfl | rfl | rfl | rfl | rfl | hp
    iterate 6 exact Or.inr rfl
    exact Or.inl hp
  · iexact HO

end Cert.Proof.Launch

end
-- ==== Proof.Obligation.lean ====
/-
  The task as the launch asks for it, and the launch's ghost element.
-/
module

public import proofs.«01_k».proof.Proof.Tile

@[expose] public section

set_option maxRecDepth 16384

noncomputable section

namespace Cert.Proof.Launch

open Cert.KernelIdeal Cert.KernelIdeal.Gen Cert.Proof.Values

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (X : (d : Dev nD) → Buf (Elt F) (tabLoc d)) (M : (d : Dev nD) → Buf (Elt F) (maskLoc d))
  (R : (d : Dev nD) → Buf (Elt F) (outLoc d))

/-- The grid point of SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          tabV (Memref.isWhole_whole _) maskV (Memref.isWhole_whole _) outV (Memref.isWhole_whole _) lowV (Memref.isWhole_whole _) highV (Memref.isWhole_whole _) listAV (Memref.isWhole_whole _) listBV (Memref.isWhole_whole _) rowsAV (Memref.isWhole_whole _) rowsBV (Memref.isWhole_whole _) cc0_scratch6 cc0_scratch7 cc0_scratch8 cc0_scratch9) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every subcore's task meets its part of the launch. -/
theorem tileObl (hF : (K (F := F)).Facts) (hM : ∀ d, IsBits (M d)) : (K (F := F)).TileObl (D (F := F)) 𝒱 (P X M R) v₀ 0 := by
  intro d c i O W hO _ _
  simp only [show (P X M R).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body X M R d (coordsV ⟨_, hci.1⟩ ⟨_, hci.2⟩) hF (hM d) O W hO).trans (wp_mono frame _ _ fun _ => obl_post)

/-- The launch element of the ghost state. -/
def u₀ : UU := (initOf (K (F := F)).hsCells (K (F := F)).hsToks, 1)

omit [FloatOps F] in
theorem emp_all {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P X M R).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emp_all]; iempintro
  rw [show (bigSep Finset.univ fun thr : Thread nD τ => bigSep Finset.univ fun q : Fin 1 => (P (F := F) X M R).x q thr) = bigSep Finset.univ fun _ => iprop(emp) from
    bigSep_congr fun _ _ => bigSep_univ_of_subsingleton (0 : Fin 1), emp_all]
  iempintro

/-! ## The arrays cut into the subcores' parts -/

omit [FloatOps F] in
/-- The two SparseCores' sixteen subcores are the thirty-two. -/
theorem tiles_all (Φ : Fin 32 → sProp 𝕄) :
    (bigSep Finset.univ fun c : Fin ((K (F := F)).nCore 0) => bigSep Finset.univ fun i : Fin ((K (F := F)).nSub 0) => Φ (noOf c i))
      = bigSep Finset.univ Φ := by
  refine (bigSep_univ_comm (fun (c : Fin 2) (i : Fin 16) => Φ (tileNo c i))).trans ?_
  rw [bigSep_univ_equiv (finProdFinEquiv (m := 16) (n := 2)) Φ, bigSep_univ_prod]
  refine bigSep_congr fun i _ => bigSep_congr fun c _ => congrArg Φ (Fin.ext ?_)
  simp only [tileNo, finProdFinEquiv_apply_val]; omega

omit [FloatOps F] in
/-- The result's sixty-four blocks, two to a subcore. -/
theorem out_blocks (d : Dev nD) (f : Buf (Elt F) (outLoc d)) :
    (outLoc d ↦{fullShare} f : sProp 𝕄) = bigSep Finset.univ fun w : Fin 32 => iprop(blockPts d (blockA w) f ∗ blockPts d (blockB w) f) := by
  have hdis : ∀ i ∈ (Finset.univ : Finset (Fin 64)), ∀ j ∈ (Finset.univ : Finset (Fin 64)), i ≠ j → Disjoint (blockSet i) (blockSet j) :=
    fun i _ j _ h => Rect.part_disjoint blocks_div h
  have hall : (outLoc d ↦{fullShare} f : sProp 𝕄) = bigSep Finset.univ fun b : Fin 64 => blockPts d b f := by
    rw [← pointsTo_biUnion Finset.univ (ℓ := outLoc d) blockSet hdis, show (Finset.univ : Finset (Fin 64)).biUnion blockSet = Finset.univ from Rect.biUnion_part blocks_div]
    try rfl
  rw [hall, bigSep_univ_equiv (finProdFinEquiv (m := 32) (n := 2)) (fun b => blockPts d b f), bigSep_univ_prod]
  refine bigSep_congr fun w _ => ?_
  rw [bigSep_univ_two]
  have eA : finProdFinEquiv (w, (0 : Fin 2)) = blockA w := Fin.ext (by simp only [blockA, finProdFinEquiv_apply_val]; show 0 + 2 * w.val = _; omega)
  have eB : finProdFinEquiv (w, (1 : Fin 2)) = blockB w := Fin.ext (by simp only [blockB, finProdFinEquiv_apply_val]; show 1 + 2 * w.val = _; omega)
  show iprop(blockPts d (finProdFinEquiv (w, (0 : Fin 2))) f ∗ blockPts d (finProdFinEquiv (w, (1 : Fin 2))) f) = _
  rw [eA, eB]

omit [FloatOps F] in
/-- The three arrays, whole, are what the two SparseCores' subcores hold. -/
theorem arrays_cut (d : Dev nD) (f : Buf (Elt F) (outLoc d)) :
    (bigSep Finset.univ fun c : Fin ((K (F := F)).nCore 0) => bigSep Finset.univ fun i : Fin ((K (F := F)).nSub 0) => tilePts X M d (noOf c i) f)
      = iprop((tabLoc d ↦{fullShare} X d) ∗ (maskLoc d ↦{fullShare} M d) ∗ (outLoc d ↦{fullShare} f)) := by
  rw [tiles_all (F := F) (fun w => tilePts X M d w f), out_blocks, ShareLeaves.pointsTo_leaves Finset.univ (X d) 5 fullShare,
    ShareLeaves.pointsTo_leaves Finset.univ (M d) 5 fullShare]
  unfold tilePts
  rw [bigSep_sep', bigSep_sep']
  rfl

theorem st_eq (d : Dev nD) : (bigSep Finset.univ fun c : Fin ((K (F := F)).nCore 0) => (P X M R).st 0 d c)
    = iprop((tabLoc d ↦{fullShare} X d) ∗ (maskLoc d ↦{fullShare} M d) ∗ (outLoc d ↦{fullShare} R d)) := arrays_cut X M d (R d)
theorem dn_eq (d : Dev nD) : (bigSep Finset.univ fun c : Fin ((K (F := F)).nCore 0) => (P X M R).dn 0 d c)
    = iprop((tabLoc d ↦{fullShare} X d) ∗ (maskLoc d ↦{fullShare} M d) ∗ (outLoc d ↦{fullShare} resOf X M d)) := arrays_cut X M d (resOf X M d)

end Cert.Proof.Launch

end
-- ==== Proof.Main.lean ====
/-
  The whole program's run: the transpose of the mask and the flattening of the table on the TensorCore, the call on the
  vector subcores, the result's reshape.
-/
module

public import proofs.«01_k».proof.Proof.Obligation

@[expose] public section

set_option maxRecDepth 16384

noncomputable section

namespace Cert.Proof.Launch

open Cert.KernelIdeal Cert.KernelIdeal.Gen Cert.Proof.Values

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The arrays and the host's operations on them -/

abbrev argX : DevRef τ sig := Proc.devRef .tc (main_arg0 : Ref sig .tc)
abbrev argD : DevRef τ sig := Proc.devRef .tc (main_arg1 : Ref sig .tc)
abbrev argM : DevRef τ sig := Proc.devRef .tc (main_arg2 : Ref sig .tc)
abbrev maskR : DevRef τ sig := Proc.devRef .tc (main_v0 : Ref sig .tc)
abbrev tabR : DevRef τ sig := Proc.devRef .tc (main_v1 : Ref sig .tc)
abbrev outR : DevRef τ sig := Proc.devRef .tc (main_v2 : Ref sig .tc)
abbrev resR : DevRef τ sig := Proc.devRef .tc (main_v3 : Ref sig .tc)

abbrev argXLoc (d : Dev nD) : Loc nD τ sig := (SparseCore.T d).loc main_arg0
abbrev argDLoc (d : Dev nD) : Loc nD τ sig := (SparseCore.T d).loc main_arg1
abbrev argMLoc (d : Dev nD) : Loc nD τ sig := (SparseCore.T d).loc main_arg2
abbrev resLoc (d : Dev nD) : Loc nD τ sig := (SparseCore.T d).loc main_v3

/-- The mask's transpose, the table's flattening, and the result's reshape. -/
abbrev opMask : HloOp τ sig (Elt F) := StableHlo.unary main_arg2 main_v0
  ((transpose S1x200x4096 [1, 2, 0] · transposes_S4096x1x200_S1x200x4096_1_2_0) :
    (⟨S4096x1x200, .i32⟩ : BufTy).Contents (Elt F) → (⟨S1x200x4096, .i32⟩ : BufTy).Contents (Elt F))
abbrev opTab : HloOp τ sig (Elt F) := StableHlo.reshape main_arg0 main_v1 (rfl : (.f32 : EltTy) = .f32) shapeCasts_S4096x200x128_S819200x128
abbrev opRes : HloOp τ sig (Elt F) := StableHlo.reshape main_v2 main_v3 (rfl : (.f32 : EltTy) = .f32) shapeCasts_S4096x128_S4096x1x128

/-- What they leave: the table, the transposed mask and the final result, from the launch contents. -/
def tabOf (d : Dev nD) : Buf (Elt F) (tabLoc d) :=
  (shapeCast S819200x128 (m (argXLoc d)) shapeCasts_S4096x200x128_S819200x128 : S819200x128.Idx → Elt F .f32)
def maskOf (d : Dev nD) : Buf (Elt F) (maskLoc d) :=
  (transpose S1x200x4096 [1, 2, 0] (m (argMLoc d)) transposes_S4096x1x200_S1x200x4096_1_2_0 : S1x200x4096.Idx → Elt F .i32)
abbrev outOf (d : Dev nD) : Buf (Elt F) (outLoc d) := m (outLoc d)
def valOf (d : Dev nD) : Buf (Elt F) (resLoc d) :=
  (shapeCast S4096x1x128 (resOf (tabOf m) (maskOf m) d) shapeCasts_S4096x128_S4096x1x128 : S4096x1x128.Idx → Elt F .f32)

/-! ## The TensorCore's seven arrays -/

abbrev S7 : Finset (DevRef τ sig) := {argX, argD, argM, maskR, tabR, outR, resR}

omit [FloatOps F] in
theorem held_S7 (d : Dev nD) (W : Valuation τ sig (Elt F)) :
    (held (T d) S7 W : sProp 𝕄)
      = iprop((argXLoc d ↦{fullShare} W argX) ∗ (argDLoc d ↦{fullShare} W argD) ∗ (argMLoc d ↦{fullShare} W argM)
          ∗ (maskLoc d ↦{fullShare} W maskR) ∗ (tabLoc d ↦{fullShare} W tabR) ∗ (outLoc d ↦{fullShare} W outR) ∗ (resLoc d ↦{fullShare} W resR)) := by
  unfold held S7
  iterate 6 rw [SparseCore.bigSep_insert' (by decide)]
  rw [bigSep_singleton]

omit [FloatOps F] in
theorem unscopedBufs_eq (d : Dev nD) (W : (b : Ref sig .tc) → Buf (Elt F) ((d.tc : Thread nD τ).loc b)) :
    (unscopedBufs d W : sProp 𝕄)
      = iprop((argXLoc d ↦{fullShare} W main_arg0) ∗ (argDLoc d ↦{fullShare} W main_arg1) ∗ (argMLoc d ↦{fullShare} W main_arg2)
          ∗ (maskLoc d ↦{fullShare} W main_v0) ∗ (tabLoc d ↦{fullShare} W main_v1) ∗ (outLoc d ↦{fullShare} W main_v2) ∗ (resLoc d ↦{fullShare} W main_v3)) := by
  unfold unscopedBufs
  rw [show (Finset.univ.filter fun b : Ref sig .tc => ¬ b.isScoped) = {main_arg0, main_arg1, main_arg2, main_v0, main_v1, main_v2, main_v3} by decide]
  iterate 6 rw [SparseCore.bigSep_insert' (by decide)]
  rw [bigSep_singleton]

/-- The contents at the launch, before the call, and after it. -/
def V0 (d : Dev nD) : Valuation τ sig (Elt F) := fun b => m (d, b)
def V2 (d : Dev nD) : Valuation τ sig (Elt F) := (opTab (F := F)).result ((opMask (F := F)).result (V0 m d))
def V3 (d : Dev nD) : Valuation τ sig (Elt F) := Function.update (V2 m d) outR (resOf (tabOf m) (maskOf m) d)

theorem unscoped_held (d : Dev nD) : (unscopedBufs d (fun b => m ((SparseCore.T d).loc b)) : sProp 𝕄) = held (T d) S7 (V0 m d) := by
  rw [unscopedBufs_eq, held_S7]; rfl

/-- An array that neither host operation writes keeps its launch contents. -/
theorem V2_of (d : Dev nD) {r : DevRef τ sig} (h0 : r ∉ ({maskR} : Finset (DevRef τ sig))) (h1 : r ∉ ({tabR} : Finset (DevRef τ sig))) :
    V2 m d r = m (d, r) := by
  unfold V2
  rw [(opTab (F := F)).result_of_not_mem _ (b := r) h1, (opMask (F := F)).result_of_not_mem _ (b := r) h0]; rfl
theorem V2_mask (d : Dev nD) : V2 m d maskR = maskOf m d := by
  unfold V2
  rw [(opTab (F := F)).result_of_not_mem _ (b := maskR) (show maskR ∉ ({tabR} : Finset (DevRef τ sig)) by decide)]
  exact StableHlo.unary_result _ _ _ _ _ _
theorem V2_tab (d : Dev nD) : V2 m d tabR = tabOf m d := by
  refine (StableHlo.reshape_result _ _ _ _ _ _ _).trans ?_
  rw [(opMask (F := F)).result_of_not_mem _ (b := argX) (show argX ∉ ({maskR} : Finset (DevRef τ sig)) by decide)]
  rfl
theorem V3_out (d : Dev nD) : V3 m d outR = resOf (tabOf m) (maskOf m) d := Function.update_self _ _ _
theorem V3_of (d : Dev nD) {r : DevRef τ sig} (h : r ≠ outR) : V3 m d r = V2 m d r := Function.update_of_ne h _ _

theorem held_V2 (d : Dev nD) :
    (held (T d) S7 (V2 m d) : sProp 𝕄)
      = iprop((argXLoc d ↦{fullShare} m (argXLoc d)) ∗ (argDLoc d ↦{fullShare} m (argDLoc d)) ∗ (argMLoc d ↦{fullShare} m (argMLoc d))
          ∗ (maskLoc d ↦{fullShare} maskOf m d) ∗ (tabLoc d ↦{fullShare} tabOf m d) ∗ (outLoc d ↦{fullShare} outOf m d) ∗ (resLoc d ↦{fullShare} V2 m d resR)) := by
  rw [held_S7, V2_mask, V2_tab, V2_of m d (r := argX) (by decide) (by decide), V2_of m d (r := argD) (by decide) (by decide),
    V2_of m d (r := argM) (by decide) (by decide), V2_of m d (r := outR) (by decide) (by decide)]

theorem held_V3 (d : Dev nD) :
    (held (T d) S7 (V3 m d) : sProp 𝕄)
      = iprop((argXLoc d ↦{fullShare} m (argXLoc d)) ∗ (argDLoc d ↦{fullShare} m (argDLoc d)) ∗ (argMLoc d ↦{fullShare} m (argMLoc d))
          ∗ (maskLoc d ↦{fullShare} maskOf m d) ∗ (tabLoc d ↦{fullShare} tabOf m d) ∗ (outLoc d ↦{fullShare} resOf (tabOf m) (maskOf m) d)
          ∗ (resLoc d ↦{fullShare} V2 m d resR)) := by
  rw [held_S7, V3_out, V3_of m d (r := maskR) (by decide), V3_of m d (r := tabR) (by decide), V3_of m d (r := argX) (by decide),
    V3_of m d (r := argD) (by decide), V3_of m d (r := argM) (by decide), V3_of m d (r := resR) (by decide), V2_mask, V2_tab,
    V2_of m d (r := argX) (by decide) (by decide), V2_of m d (r := argD) (by decide) (by decide), V2_of m d (r := argM) (by decide) (by decide)]

/-- An argument after the last reshape. -/
theorem V4_arg (d : Dev nD) {r : DevRef τ sig} (h : r ∉ ({resR} : Finset (DevRef τ sig))) (ho : r ≠ outR)
    (h0 : r ∉ ({maskR} : Finset (DevRef τ sig))) (h1 : r ∉ ({tabR} : Finset (DevRef τ sig))) :
    (opRes (F := F)).result (V3 m d) r = m (d, r) := by
  rw [(opRes (F := F)).result_of_not_mem _ (b := r) h, V3_of m d ho, V2_of m d h0 h1]
theorem V4_res (d : Dev nD) : (opRes (F := F)).result (V3 m d) resR = valOf m d := by
  refine (StableHlo.reshape_result _ _ _ _ _ _ _).trans ?_
  rw [V3_out]; rfl

theorem hMask : (opMask (F := F)).bufs ⊆ S7 := show ({argM, maskR} : Finset (DevRef τ sig)) ⊆ S7 by decide
theorem hTab : (opTab (F := F)).bufs ⊆ S7 := show ({argX, tabR} : Finset (DevRef τ sig)) ⊆ S7 by decide
theorem hRes : (opRes (F := F)).bufs ⊆ S7 := show ({outR, resR} : Finset (DevRef τ sig)) ⊆ S7 by decide

/-! ## @main -/

/-- What @main leaves the claims: the arguments at their launch contents, the result at its value. -/
abbrev FIN (d : Dev nD) : sProp 𝕄 :=
  iprop((argXLoc d ↦{fullShare} m (argXLoc d)) ∗ (argDLoc d ↦{fullShare} m (argDLoc d)) ∗ (argMLoc d ↦{fullShare} m (argMLoc d))
    ∗ (resLoc d ↦{fullShare} valOf m d))

/-- The call's payloads in this run. -/
abbrev PM : (K (F := F)).Pay (nD := nD) (Val := Elt F) (Name := ℕ) (U := UU) := P (tabOf m) (maskOf m) (outOf m)

/-- @main on device `d`'s TensorCore. -/
theorem hmain (κ : GSem nD τ sig → ℕ) (d : Dev nD) :
    iprop((K (F := F)).ctx EH (PM m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opMask) (S := S7) hMask (V := V0 m d)) $$ [Hb Hheld]
  · isplitl [Hb] <;> iassumption
  iintro ⟨Hb, Hheld⟩
  rw [wp_ret]; imodintro
  iapply (wp_hlo_within 𝒱 (SparseCore.T d) none Set.univ (op := opTab) (S := S7) hTab (V := (opMask (F := F)).result (V0 m d))) $$ [Hb Hheld]
  · isplitl [Hb] <;> iassumption
  iintro ⟨Hb, Hheld⟩
  rw [wp_ret]; imodintro
  ihave Hh := (Entails.of_eq (show (held (T d) S7 ((opTab (F := F)).result ((opMask (F := F)).result (V0 m d))) : sProp 𝕄) = _ from held_V2 (F := F) m d)) $$ Hheld
  icases Hh with ⟨Ha0, Ha1, Ha2, Hm, Ht, Ho, Hr⟩
  iapply ((K (F := F)).wp_run (D (F := F)) 𝒱 (EH := EH) (P := PM m) κ d 0) $$ [Hst Ha0 Ha1 Ha2 Hm Ht Ho Hr Hb Hts]
  isplitr; · iexact Hctx
  isplitl [Hst]; · iexact Hst
  isplitl [Hm Ht Ho]
  · rw [st_eq]
    isplitl [Ht]; · iexact Ht
    isplitl [Hm]; · iexact Hm
    iexact Ho
  iintro ⟨Hst, Hdn⟩
  ihave Hdn' := (Entails.of_eq (dn_eq (tabOf m) (maskOf m) (outOf m) d)) $$ Hdn
  icases Hdn' with ⟨Ht, Hm, Ho⟩
  iapply (wp_hlo_within 𝒱 (SparseCore.T d) none Set.univ (op := opRes) (S := S7) hRes (V := V3 m d)) $$ [Hb Ha0 Ha1 Ha2 Hm Ht Ho Hr]
  · isplitl [Hb]; · iexact Hb
    rw [held_V3]
    isplitl [Ha0]; · iexact Ha0
    isplitl [Ha1]; · iexact Ha1
    isplitl [Ha2]; · iexact Ha2
    isplitl [Hm]; · iexact Hm
    isplitl [Ht]; · iexact Ht
    isplitl [Ho]; · iexact Ho
    iexact Hr
  iintro ⟨Hb, Hheld⟩
  ihave Hh := (Entails.of_eq (held_S7 (F := F) d ((opRes (F := F)).result (V3 m d)))) $$ Hheld
  rw [V4_res, V4_arg m d (r := argX) (by decide) (by decide) (by decide) (by decide), V4_arg m d (r := argD) (by decide) (by decide) (by decide) (by decide),
    V4_arg m d (r := argM) (by decide) (by decide) (by decide) (by decide)]
  icases Hh with ⟨Ha0, Ha1, Ha2, -, -, -, Hr⟩
  rw [wp_ret]; imodintro; imodintro
  isplitl [Hst]; · iexact Hst
  isplitr [Hb Hts]
  · isplitl [Ha0]; · iexact Ha0
    isplitl [Ha1]; · iexact Ha1
    isplitl [Ha2]; · iexact Ha2
    iexact Hr
  isplitl [Hb] <;> iassumption

/-- What the claims read of device `d`'s final state. -/
def fq (d : Dev nD) (s' : Phys nD τ sig (Elt F)) : Prop :=
  s'.mem.mem (resLoc d) = valOf m d ∧ s'.mem.mem (argXLoc d) = m (argXLoc d) ∧ s'.mem.mem (argDLoc d) = m (argDLoc d) ∧ s'.mem.mem (argMLoc d) = m (argMLoc d)

theorem hfin (d : Dev nD) (s' : Phys nD τ sig (Elt F)) : iprop(FIN m d ∗ SI s') ⊢ (⌜fq m d s'⌝ : sProp 𝕄) := by
  iintro ⟨⟨Ha0, Ha1, Ha2, Hr⟩, HSI⟩
  ihave H := (persistent_entails_right (SI_pointsTo_agree (st := s') (ℓ := argXLoc d) (I := Finset.univ) (q := fullShare) (f := m (argXLoc d)))) $$ [HSI Ha0]
  · isplitl [HSI] <;> iassumption
  icases H with ⟨%h0, HSI, -⟩
  ihave H := (persistent_entails_right (SI_pointsTo_agree (st := s') (ℓ := argDLoc d) (I := Finset.univ) (q := fullShare) (f := m (argDLoc d)))) $$ [HSI Ha1]
  · isplitl [HSI] <;> iassumption
  icases H with ⟨%h1, HSI, -⟩
  ihave H := (persistent_entails_right (SI_pointsTo_agree (st := s') (ℓ := argMLoc d) (I := Finset.univ) (q := fullShare) (f := m (argMLoc d)))) $$ [HSI Ha2]
  · isplitl [HSI] <;> iassumption
  icases H with ⟨%h2, HSI, -⟩
  ihave H := (SI_pointsTo_agree (st := s') (ℓ := resLoc d) (I := Finset.univ) (q := fullShare) (f := valOf m d)) $$ [HSI Hr]
  · isplitl [HSI] <;> iassumption
  icases H with %h3
  ipureintro
  exact ⟨funext fun i => h3 i (Finset.mem_univ i), funext fun i => h0 i (Finset.mem_univ i), funext fun i => h1 i (Finset.mem_univ i),
    funext fun i => h2 i (Finset.mem_univ i)⟩

/-! ## The run -/

/-- What the run ends in: the result at its value, the arguments unchanged, every counter at zero. -/
def Ends : PUnit × MemSt nD τ sig (Elt F) → Prop := fun r =>
  (∀ c : Dev nD, r.2.mem (resLoc c) = valOf m c ∧ r.2.mem (argXLoc c) = m (argXLoc c) ∧ r.2.mem (argDLoc c) = m (argDLoc c)
    ∧ r.2.mem (argMLoc c) = m (argMLoc c)) ∧ r.2.sem = fun _ => 0

/-- From a launch memory whose mask holds zeros and ones, every execution ends so. -/
theorem run_main [∀ e, Nonempty (Elt F e)] (hM : ∀ d, IsBits (maskOf m d)) :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (tabOf m) (maskOf m) (outOf m) facts hM)
    (fun q _ => match q with | 0 => SparseCore.Cfg.VecSplit.of_plain (vecSplit (tabOf m) (maskOf m) (outOf m)))
    m ρ main (fun _ => iprop(emp)) (FIN m) (u₀ (F := F)) (sep_elim_left.trans (hu₀ (tabOf m) (maskOf m) (outOf m))) (hmain m ρ) (fq m) (hfin m) (Ends m)
    (fun _ h hz => ⟨h, hz⟩)

end Cert.Proof.Launch

end
-- ==== Proof.RefValue.lean ====
/-
  What the reference computes: row `r` of the result is the table's row of `r` at the time that the sum of row `r`'s mask
  names.
-/
module

public import proofs.«01_k».proof.Proof.Values
public import proofs.«01_k».proof.Proof.Gen.ReferenceIdeal.Run
public import Idealize.ShloMosaic.Lib.ReduceAll
public import Idealize.ShloMosaic.Lib.Pointwise
public import Idealize.ShloMosaic.Lib.ValueIdx

@[expose] public section

set_option maxRecDepth 16384

noncomputable section

namespace Cert.Proof.RefValue

open Cert.ReferenceIdeal Cert.ReferenceIdeal.Gen Cert.Proof.Values
open Idealize.ShloMosaic

variable {F : FTy → Type} [FloatOps F]

/-- The mask and the table as the programs are given them. -/
abbrev RowMask := S4096x1x200.Idx → BitVec 32

/-- The sums of the mask's rows. -/
def sums (μ : RowMask) : S4096.Idx → BitVec 32 :=
  Host.reduce IntOp.addi (shapeCast S4096x200 μ shapeCasts_S4096x1x200_S4096x200) (constantI S_ 32 0#32) reducesTo_S4096x200_S4096_d1 h_S_
/-- The times they name, along the lanes of the result. -/
def times (μ : RowMask) : S4096x1x128.Idx → BitVec 32 :=
  broadcastInDim S4096x1x128 ![0, 1, 2] bcast_S4096x1x1_S4096x1x128_0_1_2
    (shapeCast S4096x1x1 (subi (sums μ) (broadcastInDim S4096 ![] bcast_S_S4096 (constantI S_ 32 1#32))) shapeCasts_S4096_S4096x1x1)
/-- The times, those below zero counted from the end. -/
def wrapped (μ : RowMask) : S4096x1x128x1.Idx → BitVec 32 :=
  shapeCast S4096x1x128x1 (select (cmpi .slt (times μ) (broadcastInDim S4096x1x128 ![] bcast_S_S4096x1x128 (constantI S_ 32 0#32)))
    (addi (times μ) (broadcastInDim S4096x1x128 ![] bcast_S_S4096x1x128 (constantI S_ 32 200#32))) (times μ)) shapeCasts_S4096x1x128_S4096x1x128x1
/-- Which of them are times. -/
def inside (μ : RowMask) : S4096x1x128.Idx → BitVec 1 :=
  Host.reduce IntOp.andi (andi (cmpi .sge (wrapped μ) (broadcastInDim S4096x1x128x1 ![] bcast_S_S4096x1x128x1 (constantI S_ 32 0#32)))
    (cmpi .sle (wrapped μ) (broadcastInDim S4096x1x128x1 ![0, 1, 2, 3] bcast_S1x1x1x1_S4096x1x128x1_0_1_2_3 (broadcastInDim S1x1x1x1 ![3] bcast_S1_S1x1x1x1_3 (constantI S1 32 199#32)))))
    (constantI S_ 1 1#1) reducesTo_S4096x1x128x1_S4096x1x128_d3 h_S_
/-- The table's entries there. -/
def entries (x : S4096x200x128.Idx → Elt F .f32) (μ : RowMask) : S4096x1x128.Idx → Elt F .f32 :=
  Host.gather gather_S4096x200x128_S4096x1x128x1_S4096x1x128_n_1_02_02_1_3_111 x (wrapped μ)

/-- The reference's result is these steps. -/
theorem res_eq (m : (ℓ : Loc nD τ sig) → Buf (Elt F) ℓ) (c : Dev nD) :
    Value.res_out0 m c = select (inside (m ((c.tc : Thread nD τ).loc main_arg2)))
      (entries (m ((c.tc : Thread nD τ).loc main_arg0)) (m ((c.tc : Thread nD τ).loc main_arg2)))
      (broadcastInDim S4096x1x128 ![] bcast_S_S4096x1x128 (constant S_ .f32 0x7FC00000#32)) := rfl

/-- The time of row `r`: one below the sum. -/
theorem times_apply (μ : RowMask) (r : Fin 4096) (z : Fin 1) (l : Fin 128) : times μ (ix3 r z l) = sums μ (ix1 r) - 1#32 := by
  unfold times
  generalize sums μ = s
  pointwise
  rfl

/-- Wrapping a time below zero gives the last time. -/
theorem wrap_word {s : BitVec 32} (h : s.toNat ≤ 200) :
    Scalar.select (IntOp.cmpi .slt (s - 1#32) 0#32) (IntOp.addi (s - 1#32) 200#32) (s - 1#32) = lastTime s := by
  unfold lastTime
  split
  · rename_i e; subst e; decide
  · rename_i hs
    have hn : s.toNat ≠ 0 := fun e => hs (BitVec.eq_of_toNat_eq e)
    have : IntOp.cmpi .slt (s - 1#32) 0#32 = 0#1 := by
      have ht : (s - 1#32).toNat = s.toNat - 1 := by
        rw [BitVec.toNat_sub]
        simp only [BitVec.toNat_ofNat]
        omega
      simp only [IntOp.cmpi, BitVec.slt_eq_decide, BitVec.toInt_eq_toNat_cond, ht, BitVec.toNat_ofNat]
      rw [decide_eq_false (by split <;> omega)]
      rfl
    rw [this]; rfl

/-- The wrapped time of row `r`. -/
theorem wrapped_apply (μ : RowMask) (r : Fin 4096) (z : Fin 1) (l : Fin 128) (z' : Fin 1) (h : (sums μ (ix1 r)).toNat ≤ 200) :
    wrapped μ (ix4 r z l z') = lastTime (sums μ (ix1 r)) := by
  rw [← wrap_word h]
  unfold wrapped
  pointwise
  simp only [times_apply]

/-- Adding up `n` words of row `r` in any order. -/
theorem fold_words (M : Mask) (r : ℕ) : ∀ n, Finset.fold IntOp.addi 0#32 (fun x : Fin n => wordAt M r x.val) Finset.univ = partSum M r n
  | 0 => rfl
  | n + 1 => by
    rw [Fin.univ_castSuccEmb, Finset.fold_cons, Finset.fold_map, partSum, ← fold_words M r n]
    exact BitVec.add_comm _ _

/-- The mask as the kernel has it, its rows last. -/
def turned (μ : RowMask) : Mask := fun j => μ (ix3 (j 2) 0 (j 1))

/-- The sum of row `r` is the kernel's. -/
theorem sums_apply (μ : RowMask) (r : Fin 4096) : sums μ (ix1 r) = partSum (turned μ) r.val 200 := by
  rw [← fold_words]
  unfold sums
  pointwise
  refine Finset.fold_congr fun t _ => ?_
  rw [wordAt, dif_pos ⟨t.isLt, r.isLt⟩]
  rfl

/-- The gather's dimension numbers. -/
abbrev dims := gather_S4096x200x128_S4096x1x128x1_S4096x1x128_n_1_02_02_1_3_111

/-- A start index as the gather reads it: signed, and no further than the last time. -/
def clampTime (w : BitVec 32) : Fin 200 := ⟨min w.toInt.toNat 199, by omega⟩

/-- The gather's entry: row `r` at the wrapped time, in the same lane. -/
theorem entries_apply (x : S4096x200x128.Idx → Elt F .f32) (μ : RowMask) (r : Fin 4096) (z : Fin 1) (l : Fin 128) :
    entries x μ (ix3 r z l) = x (ix3 r (clampTime (wrapped μ (ix4 r z l 0))) l) := by
  unfold entries Host.gather
  generalize wrapped μ = w
  have batch : ∀ a, a ∈ dims.operandBatchingDims →
      (dims.operandIdx (ix3 r z l) w a).val
        = dims.batchCoord (ix3 r z l) a := fun a ha => by
    show _ + _ + _ = _
    rw [GatherDims.start_batching _ _ _ _ ha, GatherDims.offCoord_eq_zero _ _ _ (fun h => ((GatherDims.mem_sKept _ _).mp h).2 ha), Nat.zero_add, Nat.add_zero]
  refine congrArg x (funext fun a => Fin.ext ?_)
  match a with
  | ⟨0, _⟩ =>
    refine (batch 0 (by decide)).trans ?_
    unfold GatherDims.batchCoord
    rw [dif_pos (by decide)]
    rfl
  | ⟨1, _⟩ =>
    show dims.start (ix3 r z l) w 1 + dims.batchCoord (ix3 r z l) 1 + dims.offCoord (ix3 r z l) 1 = _
    rw [GatherDims.batchCoord_eq_zero _ _ _ (by decide), GatherDims.offCoord_eq_zero _ _ _ (by decide), Nat.add_zero]
    unfold GatherDims.start
    rw [dif_pos (by decide)]
    show min (w _).toInt.toNat 199 = min (w _).toInt.toNat 199
    congr 4
    funext b
    match b with
    | ⟨0, _⟩ => rfl
    | ⟨1, _⟩ => rfl
    | ⟨2, _⟩ => rfl
    | ⟨3, _⟩ => rfl
  | ⟨2, _⟩ =>
    refine (batch 2 (by decide)).trans ?_
    unfold GatherDims.batchCoord
    rw [dif_pos (by decide)]
    rfl

/-- Every wrapped time is a time. -/
theorem inside_apply (μ : RowMask) (h : ∀ r, (sums μ (ix1 r)).toNat ≤ 200) (j : S4096x1x128.Idx) : inside μ j = 1#1 := by
  refine Host.reduce_andi_one _ _ _ _ _ rfl fun i => ?_
  have e : wrapped μ i = lastTime (sums μ (ix1 (i 0))) := by
    rw [← wrapped_apply μ (i 0) (i 1) (i 2) (i 3) (h _)]
    congr 1
    funext a
    match a with | ⟨0, _⟩ => rfl | ⟨1, _⟩ => rfl | ⟨2, _⟩ => rfl | ⟨3, _⟩ => rfl
  show IntOp.andi (IntOp.cmpi .sge (wrapped μ i) 0#32) (IntOp.cmpi .sle (wrapped μ i) 199#32) = 1#1
  rw [e]
  have hl := lastTime_lt (h (i 0))
  rw [IntOp.andi_eq_one, IntOp.cmpi_sge, IntOp.cmpi_sle]
  simp only [BitVec.toInt_eq_toNat_cond, BitVec.toNat_ofNat]
  constructor <;> (repeat' split) <;> omega

/-- The reference's result at row `r`: the entry at the time that the sum names. -/
theorem res_apply (m : (ℓ : Loc nD τ sig) → Buf (Elt F) ℓ) (c : Dev nD) (μ : RowMask) (x : S4096x200x128.Idx → Elt F .f32)
    (hμ : m ((c.tc : Thread nD τ).loc main_arg2) = μ) (hx : m ((c.tc : Thread nD τ).loc main_arg0) = x)
    (hM : IsBits (turned μ)) (r : Fin 4096) (z : Fin 1) (l : Fin 128) :
    (Value.res_out0 m c : S4096x1x128.Idx → Elt F .f32) (ix3 r z l)
      = x (ix3 r ⟨(lastTime (partSum (turned μ) r.val 200)).toNat, lastTime_lt (partSum_le hM r.val 200 le_rfl)⟩ l) := by
  have hs : ∀ r, (sums μ (ix1 r)).toNat ≤ 200 := fun r => by rw [sums_apply]; exact partSum_le hM r.val 200 le_rfl
  have hl := lastTime_lt (partSum_le hM r.val 200 le_rfl)
  rw [res_eq, hμ, hx]
  show Scalar.select (inside μ (ix3 r z l)) (entries x μ (ix3 r z l)) _ = _
  rw [inside_apply μ hs, entries_apply x μ r z l, wrapped_apply μ r z l 0 (hs r), sums_apply μ r]
  show x _ = x _
  congr 2
  refine Fin.ext ?_
  show min (BitVec.toInt (lastTime (partSum (turned μ) r.val 200))).toNat 199 = (lastTime (partSum (turned μ) r.val 200)).toNat
  rw [BitVec.toInt_eq_toNat_cond]
  split <;> omega

end Cert.Proof.RefValue

end
-- ==== Proof.Equation.lean ====
/-
  The kernel's result is the reference's: both take, of row `r` of the table, the row at the time that the sum of the mask
  names. The kernel finds it in the flattened table, two hundred rows to a block.
-/
module

public import proofs.«01_k».proof.Proof.Main
public import proofs.«01_k».proof.Proof.RefValue

@[expose] public section

set_option maxRecDepth 16384

noncomputable section

namespace Cert.Proof.Equation

open Cert.KernelIdeal Cert.KernelIdeal.Gen Cert.Proof.Values Cert.Proof.Launch
open Idealize.ShloMosaic

variable {F : FTy → Type} [FloatOps F]

variable (m : (ℓ : Loc nD τ sig) → Buf (Elt F) ℓ)

/-- The transposed mask is the mask read with its rows last. -/
theorem maskOf_eq (d : Dev nD) : (maskOf m d : Mask) = RefValue.turned (m (argMLoc d)) := by
  funext j
  unfold maskOf RefValue.turned
  generalize m (argMLoc d) = μ
  pointwise

/-- The flattened table at row `q` is the table at the block `q / 200` and the time `q % 200`. -/
theorem flat_apply (x : S4096x200x128.Idx → Elt F .f32) (q : Fin 819200) (l : Fin 128) :
    shapeCast S819200x128 x shapeCasts_S4096x200x128_S819200x128 (ix2 q l)
      = x (ix3 ⟨q.val / 200, by have := q.isLt; omega⟩ ⟨q.val % 200, Nat.mod_lt _ (by decide)⟩ l) := by
  pointwise

/-- The final result at row `r` is row `r` of what the subcores fill. -/
theorem rows_apply (y : S4096x128.Idx → Elt F .f32) (r : Fin 4096) (z : Fin 1) (l : Fin 128) :
    shapeCast S4096x1x128 y shapeCasts_S4096x128_S4096x1x128 (ix3 r z l) = y (ix2 r l) := by
  pointwise

/-- The kernel's result at row `r`. -/
theorem valOf_apply (d : Dev nD) (x : S4096x200x128.Idx → Elt F .f32) (hx : m (argXLoc d) = x) (M : Mask) (hm : maskOf m d = M) (hM : IsBits M)
    (r : Fin 4096) (z : Fin 1) (l : Fin 128) :
    (valOf m d : S4096x1x128.Idx → Elt F .f32) (ix3 r z l)
      = x (ix3 r ⟨(lastTime (partSum M r.val 200)).toNat, lastTime_lt (partSum_le hM r.val 200 le_rfl)⟩ l) := by
  have hl := lastTime_lt (partSum_le hM r.val 200 le_rfl)
  have hr := r.isLt
  have hq := tableRow_toNat hM hr
  refine (rows_apply (F := F) _ r z l).trans ?_
  unfold resOf tabOf
  rw [hx, hm]
  refine (flat_apply (F := F) x ⟨(tableRow M r.val).toNat % 819200, Nat.mod_lt _ (by decide)⟩ l).trans ?_
  have e0 : ((tableRow M r.val).toNat % 819200) / 200 = r.val := by omega
  have e1 : ((tableRow M r.val).toNat % 819200) % 200 = (lastTime (partSum M r.val 200)).toNat := by omega
  exact congrArg x (congrArg₂ (fun a b => ix3 a b l) (Fin.ext e0) (Fin.ext e1))

end Cert.Proof.Equation

end
-- ==== Proof.Bits.lean ====
/-
  What the precondition says: every word of the mask is zero or one.
-/
module

public import proofs.«01_k».proof.Pre_bits
public import proofs.«01_k».proof.Proof.Gen.Pre_bits
public import proofs.«01_k».proof.Proof.RefValue

@[expose] public section

set_option maxRecDepth 16384

noncomputable section

namespace Cert.Proof.Bits

open Idealize.ShloMosaic Cert.Proof.Values

variable {F : FTy → Type} [FloatOps F]

/-- A word between zero and one, read signed, is zero or one. -/
theorem word_bits {v : BitVec 32} (e : IntOp.andi (IntOp.cmpi .sge v 0#32) (IntOp.cmpi .sle v 1#32) = 1#1) : v = 0#32 ∨ v = 1#32 := by
  rw [IntOp.andi_eq_one, IntOp.cmpi_sge, IntOp.cmpi_sle] at e
  obtain ⟨h0, h1⟩ := e
  rw [BitVec.toInt_eq_toNat_cond] at h0 h1
  simp only [BitVec.toInt_eq_toNat_cond, BitVec.toNat_ofNat] at h0 h1
  have hv : v.toNat = 0 ∨ v.toNat = 1 := by
    have := v.isLt
    split at h1 <;> omega
  exact hv.imp (fun h => BitVec.eq_of_toNat_eq h) (fun h => BitVec.eq_of_toNat_eq h)

/-- The precondition, read at an element. -/
theorem bits_of_pre (x : FVec F Cert.Pre_bits.S4096x200x128 .f32) (n : IVec Cert.Pre_bits.S_ 32) (μ : IVec Cert.Pre_bits.S4096x1x200 32)
    (h : Cert.Pre_bits.fn (F := F) x n μ = fun _ => 1#1) (i : Cert.Pre_bits.S4096x1x200.Idx) : μ i = 0#32 ∨ μ i = 1#32 := by
  have hs : Subsingleton Cert.Pre_bits.S_.Idx := ⟨fun a b => funext fun k => k.elim0⟩
  have e := congrFun h (fun k => k.elim0)
  dsimp only [Cert.Pre_bits.fn] at e
  exact word_bits (Host.reduce_andi_all _ _ _ _ _ e i)

/-- So the turned mask holds zeros and ones. -/
theorem isBits_turned {μ : RefValue.RowMask} (h : ∀ i, μ i = 0#32 ∨ μ i = 1#32) : IsBits (RefValue.turned μ) := fun _ => h _

end Cert.Proof.Bits

end
-- ==== Proof.lean ====
/-
  The claims of this directory, put together: the frames of the kernel at both instances and of the reference, the
  idealization (no operation rewritten), and the equality of the two programs' results over the extended reals.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_bits
public import proofs.«01_k».proof.Proof.Gen.ReferenceIdeal.Run
public import proofs.«01_k».proof.Proof.Equation
public import proofs.«01_k».proof.Proof.Bits
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem Cert.Proof.Values Cert.Proof.Launch

/-- Where every device's mask holds zeros and ones, so does its transpose. -/
theorem isBits_maskOf {F : FTy → Type} [FloatOps F]
    (m : (ℓ : Loc Cert.KernelIdeal.nD Cert.KernelIdeal.τ Cert.KernelIdeal.sig) → Buf (Elt F) ℓ)
    (h : ∀ c : Dev Cert.KernelIdeal.nD, Cert.Pre_bits.fn (F := F) (m (argXLoc c)) (m (argDLoc c)) (m (argMLoc c)) = fun _ => 1#1)
    (d : Dev Cert.KernelIdeal.nD) : IsBits (maskOf m d) := by
  rw [show IsBits (maskOf m d) = IsBits (RefValue.turned (m (argMLoc d))) from congrArg IsBits (Equation.maskOf_eq m d)]
  exact Bits.isBits_turned (Bits.bits_of_pre _ _ _ (h d))

/-- The kernel's frame. Its text is the ideal program's, so the run is the same. -/
theorem frame_kernel : Cert.quiescent_Kernel := fun m ρ hpre =>
  (θ_run Cert.KernelIdeal.defs _ _).mono (fun _ h => ⟨fun c => (h.1 c).2, h.2⟩) (run_main (F := Bits) m ρ (isBits_maskOf (F := Bits) m hpre))

/-- The ideal program's frame. -/
theorem frame_ideal : Cert.quiescent_KernelIdeal := fun m ρ hpre =>
  (θ_run Cert.KernelIdeal.defs _ _).mono (fun _ h => ⟨fun c => (h.1 c).2, h.2⟩) (run_main (F := Ideal) m ρ (isBits_maskOf (F := Ideal) m hpre))

/-- The reference's frame: it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference end with the same result. -/
theorem same_result : Cert.algebraic_KernelIdeal_ReferenceIdeal := by
  intro m g m' g' hpre hargs
  have hM := isBits_maskOf (F := Ideal) m hpre
  refine ⟨fun c => valOf m c, (θ_run Cert.KernelIdeal.defs _ _).mono (fun _ h => h.1) (run_main (F := Ideal) m g hM), ?_⟩
  refine (θ_run Cert.ReferenceIdeal.defs _ _).mono (fun r h c => ⟨(h c).1.trans ?_, (h c).2⟩) (Cert.ReferenceIdeal.Value.run (F := Ideal) m' g')
  have hm := Equation.maskOf_eq m c
  have hb : IsBits (RefValue.turned (m (argMLoc c))) := by
    rw [← show IsBits (maskOf m c) = IsBits (RefValue.turned (m (argMLoc c))) from congrArg IsBits hm]; exact hM c
  refine funext fun (j : Cert.KernelIdeal.S4096x1x128.Idx) => ?_
  have hj : j = ix3 (j 0) (j 1) (j 2) := by
    funext a
    match a with | ⟨0, _⟩ => rfl | ⟨1, _⟩ => rfl | ⟨2, _⟩ => rfl
  rw [hj]
  exact (RefValue.res_apply (F := Ideal) m' c (m (argMLoc c)) (m (argXLoc c)) (hargs c).2.2 (hargs c).1 hb (j 0) (j 1) (j 2)).trans
    (Equation.valOf_apply (F := Ideal) m c (m (argXLoc c)) rfl _ hm hb (j 0) (j 1) (j 2)).symm

theorem claim : Cert.Claim :=
  ⟨Cert.Kernel.Gen.facts, Cert.KernelIdeal.Gen.facts, Cert.ReferenceIdeal.Gen.facts, Cert.Pre_bits.Gen.facts,
    frame_kernel, frame_ideal, frame_reference, trivial, same_result⟩

end Cert.Proof

end
